-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S1024x1024 : Shape := ⟨2, ![1024, 1024]⟩
abbrev S64x1024 : Shape := ⟨2, ![64, 1024]⟩
abbrev S16x64x64 : Shape := ⟨3, ![16, 64, 64]⟩
abbrev S15 : Shape := ⟨1, ![15]⟩
abbrev S16 : Shape := ⟨1, ![16]⟩
abbrev S4 : Shape := ⟨1, ![4]⟩
abbrev S_ : Shape := ⟨0, ![]⟩
abbrev S1 : Shape := ⟨1, ![1]⟩
abbrev S256x1024 : Shape := ⟨2, ![256, 1024]⟩
abbrev S64x64 : Shape := ⟨2, ![64, 64]⟩
abbrev S1x64x64 : Shape := ⟨3, ![1, 64, 64]⟩
abbrev S64x256 : Shape := ⟨2, ![64, 256]⟩

abbrev nBuf : Space → Nat
  | .hbm => 3
  | .vmem => 4
  | .smem => 0
  | _ => 0

abbrev bufTy : (tb : Table) → Fin (tcTables nBuf tb) → BufTy
  | .hbm, ⟨0, _⟩ => ⟨S1024x64, .bf16⟩
  | .hbm, ⟨1, _⟩ => ⟨S1024x1024, .bf16⟩
  | .hbm, ⟨2, _⟩ => ⟨S64x1024, .f32⟩
  | .local _ .vmem, ⟨0, _⟩ => ⟨S1024x64, .bf16⟩
  | .local _ .vmem, ⟨1, _⟩ => ⟨S1024x1024, .bf16⟩
  | .local _ .vmem, ⟨2, _⟩ => ⟨S64x1024, .f32⟩
  | .local _ .vmem, ⟨3, _⟩ => ⟨S16x64x64, .bf16⟩
  | _, _ => ⟨S1024x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  (ofTc nBuf bufTy 1 37 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c64_i32 : BitVec 32 := 64#32
  let v80 : BitVec 32 := Scalar.muli v2 c64_i32
  let v81 : Index := Scalar.indexCast v80
  let c0 : Index := 0#32
  ![v81.toNat, 0]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v83 : Index := Scalar.indexCast v2
  let c0_77 : Index := 0#32
  let c0_78 : Index := 0#32
  ![v83.toNat, 0, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_86 : BitVec 32 := 0#32
  let c0_i32_87 : BitVec 32 := 0#32
  ![v2.toNat, 0, 0]
def k0_off5 (d0 : Dev nD) (c1_i32_80 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v87 : BitVec 32 := Scalar.addi v2 c1_i32_80
  let c16_i32_81 : BitVec 32 := 16#32
  let v88 : BitVec 32 := Scalar.remsi v87 c16_i32_81
  let c64_i32_82 : BitVec 32 := 64#32
  let v89 : BitVec 32 := Scalar.muli v88 c64_i32_82
  let c0_i32_88 : BitVec 32 := 0#32
  ![v89.toNat, 0]
def k0_dev16 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_80 : BitVec 32 := 1#32
  let v87 : BitVec 32 := Scalar.addi v2 c1_i32_80
  let c16_i32_81 : BitVec 32 := 16#32
  let v88 : BitVec 32 := Scalar.remsi v87 c16_i32_81
  let c1_i32_84 : BitVec 32 := 1#32
  let v90 : BitVec 32 := Scalar.muli v88 c1_i32_84
  let v91 : BitVec 32 := Scalar.addi c0_i32_85 v90
  v91.toNat
def k0_dev17 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_89 : BitVec 32 := 2#32
  let v99 : BitVec 32 := Scalar.addi v2 c2_i32_89
  let c16_i32_90 : BitVec 32 := 16#32
  let v100 : BitVec 32 := Scalar.remsi v99 c16_i32_90
  let c1_i32_93 : BitVec 32 := 1#32
  let v102 : BitVec 32 := Scalar.muli v100 c1_i32_93
  let v103 : BitVec 32 := Scalar.addi c0_i32_94 v102
  v103.toNat
def k0_dev18 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_98 : BitVec 32 := 3#32
  let v111 : BitVec 32 := Scalar.addi v2 c3_i32_98
  let c16_i32_99 : BitVec 32 := 16#32
  let v112 : BitVec 32 := Scalar.remsi v111 c16_i32_99
  let c1_i32_102 : BitVec 32 := 1#32
  let v114 : BitVec 32 := Scalar.muli v112 c1_i32_102
  let v115 : BitVec 32 := Scalar.addi c0_i32_103 v114
  v115.toNat
def k0_dev19 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_107 : BitVec 32 := 4#32
  let v123 : BitVec 32 := Scalar.addi v2 c4_i32_107
  let c16_i32_108 : BitVec 32 := 16#32
  let v124 : BitVec 32 := Scalar.remsi v123 c16_i32_108
  let c1_i32_111 : BitVec 32 := 1#32
  let v126 : BitVec 32 := Scalar.muli v124 c1_i32_111
  let v127 : BitVec 32 := Scalar.addi c0_i32_112 v126
  v127.toNat
def k0_dev20 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_116 : BitVec 32 := 5#32
  let v135 : BitVec 32 := Scalar.addi v2 c5_i32_116
  let c16_i32_117 : BitVec 32 := 16#32
  let v136 : BitVec 32 := Scalar.remsi v135 c16_i32_117
  let c1_i32_120 : BitVec 32 := 1#32
  let v138 : BitVec 32 := Scalar.muli v136 c1_i32_120
  let v139 : BitVec 32 := Scalar.addi c0_i32_121 v138
  v139.toNat
def k0_dev21 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v147 : BitVec 32 := Scalar.addi v2 c6_i32_125
  let c16_i32_126 : BitVec 32 := 16#32
  let v148 : BitVec 32 := Scalar.remsi v147 c16_i32_126
  let c1_i32_129 : BitVec 32 := 1#32
  let v150 : BitVec 32 := Scalar.muli v148 c1_i32_129
  let v151 : BitVec 32 := Scalar.addi c0_i32_130 v150
  v151.toNat
def k0_dev22 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_134 : BitVec 32 := 7#32
  let v159 : BitVec 32 := Scalar.addi v2 c7_i32_134
  let c16_i32_135 : BitVec 32 := 16#32
  let v160 : BitVec 32 := Scalar.remsi v159 c16_i32_135
  let c1_i32_138 : BitVec 32 := 1#32
  let v162 : BitVec 32 := Scalar.muli v160 c1_i32_138
  let v163 : BitVec 32 := Scalar.addi c0_i32_139 v162
  v163.toNat
def k0_dev23 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_143 : BitVec 32 := 8#32
  let v171 : BitVec 32 := Scalar.addi v2 c8_i32_143
  let c16_i32_144 : BitVec 32 := 16#32
  let v172 : BitVec 32 := Scalar.remsi v171 c16_i32_144
  let c1_i32_147 : BitVec 32 := 1#32
  let v174 : BitVec 32 := Scalar.muli v172 c1_i32_147
  let v175 : BitVec 32 := Scalar.addi c0_i32_148 v174
  v175.toNat
def k0_dev24 (d0 : Dev nD) : Nat :=
  let c0_i32_157 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_152 : BitVec 32 := 9#32
  let v183 : BitVec 32 := Scalar.addi v2 c9_i32_152
  let c16_i32_153 : BitVec 32 := 16#32
  let v184 : BitVec 32 := Scalar.remsi v183 c16_i32_153
  let c1_i32_156 : BitVec 32 := 1#32
  let v186 : BitVec 32 := Scalar.muli v184 c1_i32_156
  let v187 : BitVec 32 := Scalar.addi c0_i32_157 v186
  v187.toNat
def k0_dev25 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_161 : BitVec 32 := 10#32
  let v195 : BitVec 32 := Scalar.addi v2 c10_i32_161
  let c16_i32_162 : BitVec 32 := 16#32
  let v196 : BitVec 32 := Scalar.remsi v195 c16_i32_162
  let c1_i32_165 : BitVec 32 := 1#32
  let v198 : BitVec 32 := Scalar.muli v196 c1_i32_165
  let v199 : BitVec 32 := Scalar.addi c0_i32_166 v198
  v199.toNat
def k0_dev26 (d0 : Dev nD) : Nat :=
  let c0_i32_175 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_170 : BitVec 32 := 11#32
  let v207 : BitVec 32 := Scalar.addi v2 c11_i32_170
  let c16_i32_171 : BitVec 32 := 16#32
  let v208 : BitVec 32 := Scalar.remsi v207 c16_i32_171
  let c1_i32_174 : BitVec 32 := 1#32
  let v210 : BitVec 32 := Scalar.muli v208 c1_i32_174
  let v211 : BitVec 32 := Scalar.addi c0_i32_175 v210
  v211.toNat
def k0_dev27 (d0 : Dev nD) : Nat :=
  let c0_i32_184 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_179 : BitVec 32 := 12#32
  let v219 : BitVec 32 := Scalar.addi v2 c12_i32_179
  let c16_i32_180 : BitVec 32 := 16#32
  let v220 : BitVec 32 := Scalar.remsi v219 c16_i32_180
  let c1_i32_183 : BitVec 32 := 1#32
  let v222 : BitVec 32 := Scalar.muli v220 c1_i32_183
  let v223 : BitVec 32 := Scalar.addi c0_i32_184 v222
  v223.toNat
def k0_dev28 (d0 : Dev nD) : Nat :=
  let c0_i32_193 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_188 : BitVec 32 := 13#32
  let v231 : BitVec 32 := Scalar.addi v2 c13_i32_188
  let c16_i32_189 : BitVec 32 := 16#32
  let v232 : BitVec 32 := Scalar.remsi v231 c16_i32_189
  let c1_i32_192 : BitVec 32 := 1#32
  let v234 : BitVec 32 := Scalar.muli v232 c1_i32_192
  let v235 : BitVec 32 := Scalar.addi c0_i32_193 v234
  v235.toNat
def k0_dev29 (d0 : Dev nD) : Nat :=
  let c0_i32_202 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_197 : BitVec 32 := 14#32
  let v243 : BitVec 32 := Scalar.addi v2 c14_i32_197
  let c16_i32_198 : BitVec 32 := 16#32
  let v244 : BitVec 32 := Scalar.remsi v243 c16_i32_198
  let c1_i32_201 : BitVec 32 := 1#32
  let v246 : BitVec 32 := Scalar.muli v244 c1_i32_201
  let v247 : BitVec 32 := Scalar.addi c0_i32_202 v246
  v247.toNat
def k0_dev30 (d0 : Dev nD) : Nat :=
  let c0_i32_211 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_206 : BitVec 32 := 15#32
  let v255 : BitVec 32 := Scalar.addi v2 c15_i32_206
  let c16_i32_207 : BitVec 32 := 16#32
  let v256 : BitVec 32 := Scalar.remsi v255 c16_i32_207
  let c1_i32_210 : BitVec 32 := 1#32
  let v258 : BitVec 32 := Scalar.muli v256 c1_i32_210
  let v259 : BitVec 32 := Scalar.addi c0_i32_211 v258
  v259.toNat
-- ==== ReferenceIdeal.lean ====
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S1024x1024, .bf16⟩
  | .hbm, ⟨2, _⟩ => ⟨S1024x1024, .f32⟩
  | .hbm, ⟨3, _⟩ => ⟨S1024x1024, .bf16⟩
  | .hbm, ⟨4, _⟩ => ⟨S1024x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Common.lean ====
/-
# The exchange's protocol: buffers, contents, semaphore cells, schedule, dues and levels

Sixteen devices exchange 64-row blocks of their left operands. Device `c` first signals the other fifteen devices that
its landing buffer may be written, waits for their fifteen signals, then sends each other device that device's block of
its own rows; it multiplies what has landed by the right operand, four blocks at a time.

Every semaphore is treated as one cell with a single round of duties. The barrier cell of device `g` has fifteen duties,
duty `d` paid by the device `d + 1` places after `g`, which hands over the slab of its landing buffer reserved for `g`.
Every transfer semaphore has one duty, paid by the transfer that completes on it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ValueIdx
public import Idealize.ShloMosaic.Lib.Tactic

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

/-! ## The resource algebra: the pipeline's own copy and the exchange's, whose duties are numbers -/

abbrev UB : Type := URounds (GSem nD τ sig) ℕ
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

variable (m : (ℓ : Loc nD τ sig) → Buf (Elt F) ℓ)

/-! ## The devices -/

set_option backward.proofsInPublic true in
/-- The device `j + 1` places after `c`. -/
def tgt (c : Dev nD) (j : ℕ) : Dev nD := ⟨(c.val + j + 1) % 16, Nat.mod_lt _ (by decide)⟩

theorem tgt_val (c : Dev nD) (j : ℕ) : (tgt c j).val = (c.val + j + 1) % 16 := rfl

theorem dev_lt (c : Dev nD) : c.val < 16 := c.isLt

theorem tgt_tgt (c : Dev nD) {j : ℕ} (h : j < 15) : tgt (tgt c j) (14 - j) = c := by
  apply Fin.ext; have := dev_lt c; simp only [tgt_val]; omega

theorem tgt_tgt' (c : Dev nD) {j : ℕ} (h : j < 15) : tgt (tgt c (14 - j)) j = c := by
  apply Fin.ext; have := dev_lt c; simp only [tgt_val]; omega

theorem tgt_ne (c : Dev nD) {j : ℕ} (h : j < 15) : (tgt c j).val ≠ c.val := by
  have := dev_lt c; simp only [tgt_val]; omega

/-- The devices arranged in a ring, shifted by `j + 1`. -/
def shift (j : ℕ) (h : j < 15) : Dev nD ≃ Dev nD where
  toFun c := tgt c j
  invFun c := tgt c (14 - j)
  left_inv c := tgt_tgt c h
  right_inv c := tgt_tgt' c h

/-! ## The buffers and the semaphores -/

/-- The left operand, the right operand and the result, as they lie in HBM. -/
abbrev xaM : Memref sig .tc .hbm S1024x64 .bf16 := Memref.whole main_arg0
abbrev waM : Memref sig .tc .hbm S1024x1024 .bf16 := Memref.whole main_arg1
abbrev oaM : Memref sig .tc .hbm S64x1024 .f32 := Memref.whole main_v1
/-- Their copies in VMEM, and the landing buffer: sixteen slabs, one per sending device. -/
abbrev xM : Memref sig .tc .vmem S1024x64 .bf16 := Memref.whole cc0_scratch0
abbrev wM : Memref sig .tc .vmem S1024x1024 .bf16 := Memref.whole cc0_scratch1
abbrev oM : Memref sig .tc .vmem S64x1024 .f32 := Memref.whole cc0_scratch2
abbrev cM : Memref sig .tc .vmem S16x64x64 .bf16 := Memref.whole cc0_scratch3

abbrev barS : Sem sig := (SemArray.scalar (sig.barrier 0 rfl) : Sems sig S_).sem

set_option backward.proofsInPublic true in
/-- Transfer semaphore number `q`: 0–14 sends, 15–30 receives, 31–34 the right operand's chunks, 35 the left operand,
    36 the result. -/
def dmaS (q : ℕ) : DmaSem sig := (⟨q % 37, Nat.mod_lt _ (by decide)⟩ : Fin 37)

theorem dmaS_val {q : ℕ} (h : q < 37) : (dmaS q).val = q := Nat.mod_eq_of_lt h

abbrev bCell (c : Dev nD) : GSem nD τ sig := ((c : Thread nD τ), .reg barS)
abbrev dCell (c : Dev nD) (q : ℕ) : GSem nD τ sig := ((c : Thread nD τ), .dma (dmaS q))

/-- What one transfer credits its semaphore with: a 64×64 block, a chunk of the right operand, the left operand, the
    result. -/
abbrev Nb : ℕ := ((cM.slice (Rect.unit (s := S16x64x64) ![0, 0, 0] S1x64x64.size inb_S16x64x64_S1x64x64_0_0_0) (fun _ => rfl)).squeeze S64x64 squeezes_S1x64x64_S64x64).view.dmaCredit
abbrev Nw : ℕ := (wM.slice (Rect.unit (s := S1024x1024) ![0, 0] S256x1024.size inb_S1024x1024_S256x1024_0_0) (fun _ => rfl)).view.dmaCredit
abbrev Nx : ℕ := xM.view.dmaCredit
abbrev No : ℕ := oaM.view.dmaCredit

theorem Nb_pos : 0 < Nb := View.dmaCredit_pos _ (by decide)
theorem Nw_pos : 0 < Nw := View.dmaCredit_pos _ (by decide)
theorem Nx_pos : 0 < Nx := View.dmaCredit_pos _ (by decide)
theorem No_pos : 0 < No := View.dmaCredit_pos _ (by decide)

/-! ## The parts of the buffers -/

/-- Slab `s` of the landing buffer. -/
def slotSet (s : ℕ) : Finset S16x64x64.Idx := Finset.univ.filter fun i => (i 0).val = s
/-- Rows `64 s` to `64 s + 63` of the left operand. -/
def xSet (s : ℕ) : Finset S1024x64.Idx := Finset.univ.filter fun i => (i 0).val / 64 = s
/-- Rows `256 g` to `256 g + 255` of the right operand. -/
def wSet (g : ℕ) : Finset S1024x1024.Idx := Finset.univ.filter fun i => (i 0).val / 256 = g

def slotPts (c : Dev nD) (s : ℕ) (f : Buf (Elt F) ((c : Thread nD τ).loc cc0_scratch3)) : sProp 𝕄 :=
  (c : Thread nD τ).loc cc0_scratch3 ↦[slotSet s]{fullShare} f
def xPts (c : Dev nD) (s : ℕ) (f : Buf (Elt F) ((c : Thread nD τ).loc cc0_scratch0)) : sProp 𝕄 :=
  (c : Thread nD τ).loc cc0_scratch0 ↦[xSet s]{fullShare} f
def wPts (c : Dev nD) (g : ℕ) (f : Buf (Elt F) ((c : Thread nD τ).loc cc0_scratch1)) : sProp 𝕄 :=
  (c : Thread nD τ).loc cc0_scratch1 ↦[wSet g]{fullShare} f
def waPts (c : Dev nD) (g : ℕ) (f : Buf (Elt F) ((c : Thread nD τ).loc main_arg1)) : sProp 𝕄 :=
  (c : Thread nD τ).loc main_arg1 ↦[wSet g]{fullShare} f

instance slotPts_storable (c : Dev nD) (s : ℕ) (f) : BI.Storable (upEmb : UEmb _ 𝕄) (slotPts (F := F) c s f) := by unfold slotPts; infer_instance
instance xPts_storable (c : Dev nD) (s : ℕ) (f) : BI.Storable (upEmb : UEmb _ 𝕄) (xPts (F := F) c s f) := by unfold xPts; infer_instance
instance wPts_storable (c : Dev nD) (s : ℕ) (f) : BI.Storable (upEmb : UEmb _ 𝕄) (wPts (F := F) c s f) := by unfold wPts; infer_instance
instance waPts_storable (c : Dev nD) (s : ℕ) (f) : BI.Storable (upEmb : UEmb _ 𝕄) (waPts (F := F) c s f) := by unfold waPts; infer_instance

/-! ## Contents -/

/-- Device `c`'s operands at launch. -/
def xF (c : Dev nD) : Vec F S1024x64 .bf16 := m ((c : Thread nD τ).loc main_arg0)
def wF (c : Dev nD) : Vec F S1024x1024 .bf16 := m ((c : Thread nD τ).loc main_arg1)

theorem row_lt (c : Dev nD) (i : Fin 64) : 64 * c.val + i.val < 1024 := by have := dev_lt c; omega

/-- Device `c`'s landing buffer once every slab has landed: slab `s` holds block `c` of device `s`'s rows. -/
def comF (c : Dev nD) : Vec F S16x64x64 .bf16 := fun i =>
  xF m ⟨(i 0).val, (i 0).isLt⟩ (ix2 ⟨64 * c.val + (i 1).val, row_lt c (i 1)⟩ (i 2))

set_option backward.proofsInPublic true in
/-- Slab `s` of that buffer, as a load of the slab reads it. -/
def slotVal (c : Dev nD) (s : ℕ) : Vec F S1x64x64 .bf16 := fun i =>
  comF m c (ix3 (⟨s % 16, Nat.mod_lt _ (by decide)⟩ : Fin 16) (i 1) (i 2))

set_option backward.proofsInPublic true in
/-- Chunk `g` of the right operand, as a load of the chunk reads it. -/
def wVal (c : Dev nD) (g : ℕ) : Vec F S256x1024 .bf16 := fun i =>
  wF m c (ix2 (⟨(256 * g + (i 0).val) % 1024, Nat.mod_lt _ (by decide)⟩ : Fin 1024) (i 1))

/-- The result after the first one, two, three and four groups of four slabs. -/
def acc0 (c : Dev nD) : Vec F S64x1024 .f32 :=
  k0_pay3 (k0_pay2 (slotVal m c 0) (slotVal m c 1) (slotVal m c 2) (slotVal m c 3)) (wVal m c 0)
def acc1 (c : Dev nD) : Vec F S64x1024 .f32 :=
  k0_pay7 (k0_pay4 (slotVal m c 4)) (k0_pay5 (slotVal m c 5)) (k0_pay6 (slotVal m c 6)) (slotVal m c 7) (wVal m c 1) (acc0 m c)
def acc2 (c : Dev nD) : Vec F S64x1024 .f32 :=
  k0_pay9 (k0_pay8 (slotVal m c 8)) (slotVal m c 9) (slotVal m c 10) (slotVal m c 11) (wVal m c 2) (acc1 m c)
def outF (c : Dev nD) : Vec F S64x1024 .f32 :=
  k0_pay10 (slotVal m c 12) (slotVal m c 13) (slotVal m c 14) (slotVal m c 15) (wVal m c 3) (acc2 m c)

/-! ## The schedule -/

/-- What the left operand's copy hands back: both buffers, the copy at the operand's contents. -/
def xPay (c : Dev nD) : sProp 𝕄 :=
  iprop(((c : Thread nD τ).loc cc0_scratch0 ↦{fullShare} xF m c) ∗ ((c : Thread nD τ).loc main_arg0 ↦{fullShare} xF m c))
/-- What chunk `g` of the right operand's copy hands back. -/
def wPay (c : Dev nD) (g : ℕ) : sProp 𝕄 := iprop(wPts c g (wF m c) ∗ waPts c g (wF m c))
/-- What the result's copy hands back. -/
def oPay (c : Dev nD) : sProp 𝕄 :=
  iprop(((c : Thread nD τ).loc main_v1 ↦{fullShare} outF m c) ∗ ((c : Thread nD τ).loc cc0_scratch2 ↦{fullShare} outF m c))

instance xPay_storable (c : Dev nD) : BI.Storable (upEmb : UEmb _ 𝕄) (xPay m c) := by unfold xPay; infer_instance
instance wPay_storable (c : Dev nD) (g : ℕ) : BI.Storable (upEmb : UEmb _ 𝕄) (wPay m c g) := by unfold wPay; infer_instance
instance oPay_storable (c : Dev nD) : BI.Storable (upEmb : UEmb _ 𝕄) (oPay m c) := by unfold oPay; infer_instance

/-- What transfer semaphore `q` of device `c` hands its waiter. -/
def dmaPay (c : Dev nD) (q : ℕ) : sProp 𝕄 :=
  if q < 15 then xPts c (tgt c q).val (xF m c)
  else if q < 31 then slotPts c (q - 15) (comF m c)
  else if q < 35 then wPay m c (q - 31)
  else if q < 36 then xPay m c
  else oPay m c

instance dmaPay_storable (c : Dev nD) (q : ℕ) : BI.Storable (upEmb : UEmb _ 𝕄) (dmaPay m c q) := by
  unfold dmaPay; (repeat' split) <;> infer_instance

/-- What duty `d` of device `c`'s barrier hands its waiter: slab `c` of the landing buffer of the device that pays it. -/
def barPay (c : Dev nD) (d : ℕ) : sProp 𝕄 := iprop(∃ f, slotPts (F := F) (tgt c d) c.val f)

instance barPay_storable (c : Dev nD) (d : ℕ) : BI.Storable (upEmb : UEmb _ 𝕄) (barPay (F := F) c d) := by unfold barPay; infer_instance

/-- The units one duty of a semaphore contributes. -/
def units : SemLoc sig → ℕ
  | .reg _ => 1
  | .dma q => if q.val < 31 then Nb else if q.val < 35 then Nw else if q.val < 36 then Nx else No

theorem units_pos (sm : SemLoc sig) : 0 < units sm := by
  have := Nb_pos; have := Nw_pos; have := Nx_pos; have := No_pos
  cases sm with
  | reg _ => exact Nat.one_pos
  | dma q => dsimp only [units]; (repeat' split) <;> assumption

/-- The duties of a semaphore of device `c`: fifteen of the barrier, one of every transfer semaphore but the receive
    semaphore for device `c` itself, which sends itself nothing. -/
def duts (c : Dev nD) : SemLoc sig → Finset ℕ
  | .reg _ => Finset.range 15
  | .dma q => if q.val = 15 + c.val then ∅ else {0}

/-- What duty `d` of a semaphore of device `c` hands over. -/
def pay (c : Dev nD) (sm : SemLoc sig) (d : ℕ) : sProp 𝕄 :=
  match sm with
  | .reg _ => barPay c d
  | .dma q => dmaPay m c q.val

/-- The one round of every semaphore. -/
def Rd : Rounds.Schedule (GSem nD τ sig) ℕ 𝕄 where
  duties g r := if r = 0 then duts g.1.1 g.2 else ∅
  unitless _ := False
  amount g _ _ := units g.2
  payload g _ d := pay m g.1.1 g.2 d
  amount_pos g _ _ _ := units_pos g.2

instance Rd_payload_storable (g : GSem nD τ sig) (r : ℕ) (d : ℕ) : BI.Storable (upEmb : UEmb _ 𝕄) ((Rd (F := F) m).payload g r d) := by
  show BI.Storable upEmb (pay m g.1.1 g.2 d)
  unfold pay; split <;> infer_instance

theorem duties_later (g : GSem nD τ sig) : ∀ r, 1 ≤ r → (Rd (F := F) m).duties g r = ∅ :=
  fun r hr => if_neg (by omega)

theorem duties_zero (c : Dev nD) (sm : SemLoc sig) : (Rd (F := F) m).duties ((c : Thread nD τ), sm) 0 = duts c sm := by
  dsimp only [Rd]; exact if_pos rfl

theorem duties_bar (c : Dev nD) : (Rd (F := F) m).duties (bCell c) 0 = Finset.range 15 := duties_zero m c _

theorem duties_dma (c : Dev nD) {q : ℕ} (hq : q < 37) (h : q ≠ 15 + c.val) : (Rd (F := F) m).duties (dCell c q) 0 = {0} := by
  rw [duties_zero]; show (if (dmaS q).val = 15 + c.val then ∅ else {0}) = ({0} : Finset ℕ); rw [dmaS_val hq, if_neg h]

theorem duties_self (c : Dev nD) : (Rd (F := F) m).duties (dCell c (15 + c.val)) 0 = ∅ := by
  have := dev_lt c
  rw [duties_zero]; show (if (dmaS (15 + c.val)).val = 15 + c.val then ∅ else {0}) = (∅ : Finset ℕ); rw [dmaS_val (by omega), if_pos rfl]

theorem amount_bar (c : Dev nD) (d : ℕ) : (Rd (F := F) m).amount (bCell c) 0 d = 1 := rfl

theorem amount_dma (c : Dev nD) {q : ℕ} (hq : q < 37) (d : ℕ) :
    (Rd (F := F) m).amount (dCell c q) 0 d = if q < 31 then Nb else if q < 35 then Nw else if q < 36 then Nx else No := by
  show (if (dmaS q).val < 31 then Nb else if (dmaS q).val < 35 then Nw else if (dmaS q).val < 36 then Nx else No) = _
  rw [dmaS_val hq]

theorem payload_bar (c : Dev nD) (d : ℕ) : (Rd (F := F) m).payload (bCell c) 0 d = barPay c d := rfl

theorem payload_dma (c : Dev nD) {q : ℕ} (hq : q < 37) (d : ℕ) : (Rd (F := F) m).payload (dCell c q) 0 d = dmaPay m c q := by
  show dmaPay m c (dmaS q).val = _; rw [dmaS_val hq]

theorem expect_bar (c : Dev nD) : (Rd (F := F) m).expect (bCell c) 0 = 15 := by
  unfold Schedule.expect Schedule.amountOf
  rw [duties_bar, Finset.sum_congr rfl fun d _ => amount_bar m c d, Finset.sum_const, Finset.card_range, smul_eq_mul]

theorem expect_dma (c : Dev nD) {q : ℕ} (hq : q < 37) (h : q ≠ 15 + c.val) :
    (Rd (F := F) m).expect (dCell c q) 0 = if q < 31 then Nb else if q < 35 then Nw else if q < 36 then Nx else No := by
  unfold Schedule.expect Schedule.amountOf; rw [duties_dma m c hq h, Finset.sum_singleton, amount_dma m c hq]

theorem rest_bar (c : Dev nD) :
    bigSep ((Rd (F := F) m).duties (bCell c) 0 \ ∅) (fun d => (Rd (F := F) m).payload (bCell c) 0 d) = bigSep (Finset.range 15) (barPay c) := by
  rw [Finset.sdiff_empty, duties_bar]; rfl

theorem rest_dma (c : Dev nD) {q : ℕ} (hq : q < 37) (h : q ≠ 15 + c.val) :
    bigSep ((Rd (F := F) m).duties (dCell c q) 0 \ ∅) (fun d => (Rd (F := F) m).payload (dCell c q) 0 d) = dmaPay m c q := by
  rw [Finset.sdiff_empty, duties_dma m c hq h, bigSep_singleton, payload_dma m c hq]

theorem dmaPay_send (c : Dev nD) {j : ℕ} (h : j < 15) : dmaPay m c j = xPts c (tgt c j).val (xF m c) := if_pos h
theorem dmaPay_recv (c : Dev nD) {s : ℕ} (h : s < 16) : dmaPay m c (15 + s) = slotPts c s (comF m c) := by
  unfold dmaPay; rw [if_neg (by omega), if_pos (by omega), Nat.add_sub_cancel_left]
theorem dmaPay_w (c : Dev nD) {g : ℕ} (h : g < 4) : dmaPay m c (31 + g) = wPay m c g := by
  unfold dmaPay; rw [if_neg (by omega), if_neg (by omega), if_pos (by omega), Nat.add_sub_cancel_left]
theorem dmaPay_x (c : Dev nD) : dmaPay m c 35 = xPay m c := rfl
theorem dmaPay_o (c : Dev nD) : dmaPay m c 36 = oPay m c := rfl

/-! ## What each device owes, and the levels -/

/-- Device `c` owes, from its `k`-th send on, the receive semaphores of the devices it still sends to. -/
def Osend (c : Dev nD) (k : ℕ) : CellTallies nD τ sig Unit := ∑ j ∈ Finset.Ico k 15, tallyAt (dCell (tgt c j) (15 + c.val)) () Nb
/-- Device `c` owes, from its `k`-th signal on, the barriers it still signals and every receive semaphore. -/
def Osig (c : Dev nD) (k : ℕ) : CellTallies nD τ sig Unit := Osend c 0 + ∑ j ∈ Finset.Ico k 15, tallyAt (bCell (tgt c j)) () 1

theorem Osend_succ (c : Dev nD) {k : ℕ} (h : k < 15) : Osend c k = Osend c (k + 1) + tallyAt (dCell (tgt c k) (15 + c.val)) () Nb := by
  unfold Osend; rw [Finset.sum_eq_sum_Ico_succ_bot h, add_comm]
theorem Osig_succ (c : Dev nD) {k : ℕ} (h : k < 15) : Osig c k = Osig c (k + 1) + tallyAt (bCell (tgt c k)) () 1 := by
  unfold Osig; rw [Finset.sum_eq_sum_Ico_succ_bot h, add_comm (tallyAt _ _ _), add_assoc]
theorem Osend_last (c : Dev nD) : Osend c 15 = 0 := by unfold Osend; rw [Finset.Ico_self, Finset.sum_empty]
theorem Osig_last (c : Dev nD) : Osig c 15 = Osend c 0 := by unfold Osig; rw [Finset.Ico_self, Finset.sum_empty, add_zero]

def L (g : GSem nD τ sig) : Finset Unit := if g.1.2 = .tc then {()} else ∅
/-- Barriers at level 1, receive semaphores at 2, everything else at 0. -/
def lev (sm : SemLoc sig) : ℕ := match sm with
  | .reg _ => 1
  | .dma q => if 15 ≤ q.val ∧ q.val < 31 then 2 else 0
def lv (g : GSem nD τ sig) (_ : Unit) : ℕ := lev g.2

theorem L_of_ne (g : GSem nD τ sig) (h : g.1.2 ≠ .tc) : L g = ∅ := if_neg h
theorem L_tc (c : Dev nD) (sm : SemLoc sig) : L ((c : Thread nD τ), sm) = {()} := if_pos rfl

theorem lev_recv {s : ℕ} (h : s < 16) : lev (.dma (dmaS (15 + s))) = 2 := by
  show (if 15 ≤ (dmaS (15 + s)).val ∧ (dmaS (15 + s)).val < 31 then 2 else 0) = 2
  rw [dmaS_val (by omega), if_pos (by omega)]

theorem Osend_pos {c : Dev nD} {k : ℕ} {g : GSem nD τ sig} {u : Unit} (h : 0 < Osend c k g u) : ∃ j, g = dCell (tgt c j) (15 + c.val) := by
  unfold Osend at h
  rw [Finset.sum_apply, Finsupp.finsetSum_apply] at h
  obtain ⟨j, -, hj⟩ := Finset.exists_ne_zero_of_sum_ne_zero h.ne'
  refine ⟨j, ?_⟩
  by_contra hn
  rw [tallyAt_apply, if_neg (fun h' => hn h'.1)] at hj
  exact hj rfl

/-- While device `c` owes receive semaphores only, it may wait on any semaphore below them. -/
theorem mayWait_send (c : Dev nD) (k : ℕ) (sm : SemLoc sig) (hsm : lev sm ≤ 1) :
    (levAts L lv : sProp 𝕄) ⊢ MayWait (c : Thread nD τ) sm () (Osend c k) :=
  MayOwe.of_cut (L := L) (lev := lv) 1 (fun p hp => by rw [Finset.mem_singleton.mp hp, L_tc]; exact Finset.mem_singleton_self _)
    (fun g u hg => by obtain ⟨j, rfl⟩ := Osend_pos hg; exact Finset.mem_singleton_self _)
    (fun p hp => by rw [Finset.mem_singleton.mp hp]; exact hsm)
    (fun g u hg => by obtain ⟨j, rfl⟩ := Osend_pos hg; show 1 < lev (.dma (dmaS (15 + c.val))); rw [lev_recv (dev_lt c)]; decide)

/-! ## The records every device holds: every cell's invariant, and that every cell's round is reached -/

abbrev cellAt (ck : Dev nD × SemLoc sig) : GSem nD τ sig := ((ck.1 : Thread nD τ), ck.2)

def records (K : Dev nD × SemLoc sig → ℕ) : sProp 𝕄 :=
  iprop((bigSep Finset.univ fun ck : Dev nD × SemLoc sig => cellInv ER (Rd m) (K ck) (cellAt ck))
    ∗ (bigSep Finset.univ fun ck : Dev nD × SemLoc sig => reached ER (cellAt ck) 0) ∗ (levAts L lv : sProp 𝕄))

instance records_persistent (K : Dev nD × SemLoc sig → ℕ) : BI.Persistent (records m K) := by unfold records; infer_instance

theorem inv_at (K : Dev nD × SemLoc sig → ℕ) (c : Dev nD) (sm : SemLoc sig) :
    records m K ⊢ cellInv ER (Rd m) (K (c, sm)) ((c : Thread nD τ), sm) := by
  unfold records
  iintro ⟨H, -, -⟩
  iapply (show (bigSep Finset.univ fun ck : Dev nD × SemLoc sig => (cellInv ER (Rd m) (K ck) (cellAt ck) : sProp 𝕄))
    ⊢ cellInv ER (Rd m) (K (c, sm)) (cellAt (c, sm)) from bigSep_elim (Finset.mem_univ (c, sm))); iexact H

theorem reached_at (K : Dev nD × SemLoc sig → ℕ) (c : Dev nD) (sm : SemLoc sig) :
    records m K ⊢ reached ER ((c : Thread nD τ), sm) 0 := by
  unfold records
  iintro ⟨-, H, -⟩
  iapply (show (bigSep Finset.univ fun ck : Dev nD × SemLoc sig => (reached ER (cellAt ck) 0 : sProp 𝕄))
    ⊢ reached ER (cellAt (c, sm)) 0 from bigSep_elim (Finset.mem_univ (c, sm))); iexact H

theorem mayWait_at (K : Dev nD × SemLoc sig → ℕ) (c : Dev nD) (k : ℕ) (sm : SemLoc sig) (hsm : lev sm ≤ 1) :
    records m K ⊢ MayWait (c : Thread nD τ) sm () (Osend c k) := by
  unfold records
  iintro ⟨-, -, H⟩; iapply (mayWait_send c k sm hsm); iexact H

theorem mayWait_none (K : Dev nD × SemLoc sig → ℕ) (c : Dev nD) (sm : SemLoc sig) :
    records m K ⊢ MayWait (c : Thread nD τ) sm () (0 : CellTallies nD τ sig Unit) := by
  rw [MayWait_zero]; iintro -; iempintro

end Cert.Exchange

end
-- ==== Proof.Views.lean ====
/-
# What the kernel's views cover, and what is read and written through them

A slab of the landing buffer, a row block of the left operand and a chunk of the right operand are each the elements
whose leading coordinate lies in one range. The facts here say so for the views the kernel names, whatever expression
the view's offset is written as, and give the values a transfer, load or store moves through them.
-/
module

public import proofs.«01_k».proof.Proof.Common
public import Idealize.ShloMosaic.Lib.ValueLayout

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.ValueIdx

variable {F : FTy → Type} [FloatOps F]

local notation "𝕄" => MT nD τ sig Unit (Elt F) ℕ UU ℕ

variable (m : (ℓ : Loc nD τ sig) → Buf (Elt F) ℓ)

/-! ## The views, by offset -/

abbrev cRect (o : Fin 3 → ℕ) (h : ∀ a, o a + S1x64x64.size a ≤ S16x64x64.size a) : Rect S16x64x64 := Rect.unit (s := S16x64x64) o S1x64x64.size h
abbrev xRect (o : Fin 2 → ℕ) (h : ∀ a, o a + S64x64.size a ≤ S1024x64.size a) : Rect S1024x64 := Rect.unit (s := S1024x64) o S64x64.size h
abbrev wRect (o : Fin 2 → ℕ) (h : ∀ a, o a + S256x1024.size a ≤ S1024x1024.size a) : Rect S1024x1024 := Rect.unit (s := S1024x1024) o S256x1024.size h

/-- A slab of the landing buffer as a 64×64 block, a row block of the left operand, a chunk of the right operand in VMEM
    and in HBM. -/
abbrev cSq (o : Fin 3 → ℕ) (h : ∀ a, o a + S1x64x64.size a ≤ S16x64x64.size a) : Memref sig .tc .vmem S64x64 .bf16 :=
  (cM.slice (cRect o h) (fun _ => rfl)).squeeze S64x64 squeezes_S1x64x64_S64x64
abbrev xSl (o : Fin 2 → ℕ) (h : ∀ a, o a + S64x64.size a ≤ S1024x64.size a) : Memref sig .tc .vmem S64x64 .bf16 :=
  xM.slice (xRect o h) (fun _ => rfl)
abbrev wSl (o : Fin 2 → ℕ) (h : ∀ a, o a + S256x1024.size a ≤ S1024x1024.size a) : Memref sig .tc .vmem S256x1024 .bf16 :=
  wM.slice (wRect o h) (fun _ => rfl)
abbrev waSl (o : Fin 2 → ℕ) (h : ∀ a, o a + S256x1024.size a ≤ S1024x1024.size a) : Memref sig .tc .hbm S256x1024 .bf16 :=
  waM.slice (wRect o h) (fun _ => rfl)

/-! ## What they cover -/

theorem cRect_set {o : Fin 3 → ℕ} (h) {s : ℕ} (e : o = ![s, 0, 0]) : (cRect o h).set = slotSet s := by
  subst e
  ext i
  rw [Rect.mem_set_unit]
  simp only [slotSet, Finset.mem_filter, Finset.mem_univ, true_and]
  have h1 : (i 1).val < 64 := (i 1).isLt
  have h2 : (i 2).val < 64 := (i 2).isLt
  constructor
  · intro H; have := H 0; simp at this; omega
  · intro H a
    fin_cases a
    · show s ≤ (i 0).val ∧ (i 0).val < s + 1; omega
    · show 0 ≤ (i 1).val ∧ (i 1).val < 0 + 64; omega
    · show 0 ≤ (i 2).val ∧ (i 2).val < 0 + 64; omega

theorem xRect_set {o : Fin 2 → ℕ} (h) {s : ℕ} (e : o = ![64 * s, 0]) : (xRect o h).set = xSet s := by
  subst e
  ext i
  rw [Rect.mem_set_unit]
  simp only [xSet, Finset.mem_filter, Finset.mem_univ, true_and]
  have h1 : (i 1).val < 64 := (i 1).isLt
  constructor
  · intro H; have : 64 * s ≤ (i 0).val ∧ (i 0).val < 64 * s + 64 := H 0; omega
  · intro H a
    fin_cases a
    · show 64 * s ≤ (i 0).val ∧ (i 0).val < 64 * s + 64; omega
    · show 0 ≤ (i 1).val ∧ (i 1).val < 0 + 64; omega

theorem wRect_set {o : Fin 2 → ℕ} (h) {g : ℕ} (e : o = ![256 * g, 0]) : (wRect o h).set = wSet g := by
  subst e
  ext i
  rw [Rect.mem_set_unit]
  simp only [wSet, Finset.mem_filter, Finset.mem_univ, true_and]
  have h1 : (i 1).val < 1024 := (i 1).isLt
  constructor
  · intro H; have : 256 * g ≤ (i 0).val ∧ (i 0).val < 256 * g + 256 := H 0; omega
  · intro H a
    fin_cases a
    · show 256 * g ≤ (i 0).val ∧ (i 0).val < 256 * g + 256; omega
    · show 0 ≤ (i 1).val ∧ (i 1).val < 0 + 1024; omega

theorem cSq_set {o : Fin 3 → ℕ} (h) {s : ℕ} (e : o = ![s, 0, 0]) : (cSq o h).view.set = slotSet s :=
  (View.set_reshape (cM.view.slice (cRect o h)) _).trans ((View.set_slice_whole cc0_scratch3 _).trans (cRect_set h e))
theorem xSl_set {o : Fin 2 → ℕ} (h) {s : ℕ} (e : o = ![64 * s, 0]) : (xSl o h).view.set = xSet s :=
  (View.set_slice_whole cc0_scratch0 _).trans (xRect_set h e)
theorem wSl_set {o : Fin 2 → ℕ} (h) {g : ℕ} (e : o = ![256 * g, 0]) : (wSl o h).view.set = wSet g :=
  (View.set_slice_whole cc0_scratch1 _).trans (wRect_set h e)
theorem waSl_set {o : Fin 2 → ℕ} (h) {g : ℕ} (e : o = ![256 * g, 0]) : (waSl o h).view.set = wSet g :=
  (View.set_slice_whole main_arg1 _).trans (wRect_set h e)

theorem cAccess_set {o : Fin 3 → ℕ} (h) {s : ℕ} (e : o = ![s, 0, 0]) : (cM.access (cRect o h)).set = slotSet s :=
  (View.set_slice_whole cc0_scratch3 _).trans (cRect_set h e)
theorem wAccess_set {o : Fin 2 → ℕ} (h) {g : ℕ} (e : o = ![256 * g, 0]) : (wM.access (wRect o h)).set = wSet g :=
  (View.set_slice_whole cc0_scratch1 _).trans (wRect_set h e)

/-! ## Where their elements lie -/

theorem cRect_emb {s : ℕ} (h) (hs : s < 16) (u : Fin 1) (a b : Fin 64) :
    (cRect ![s, 0, 0] h).emb (ix3 u a b) = (ix3 (⟨s, hs⟩ : Fin 16) a b : S16x64x64.Idx) := by
  funext k; apply Fin.ext
  have hu : u.val = 0 := by omega
  fin_cases k
  · show s + 1 * u.val = s; omega
  · show 0 + 1 * a.val = a.val; omega
  · show 0 + 1 * b.val = b.val; omega

theorem cSq_emb {s : ℕ} (h) (hs : s < 16) (a b : Fin 64) :
    (cSq ![s, 0, 0] h).view.emb (ix2 a b) = (ix3 (⟨s, hs⟩ : Fin 16) a b : S16x64x64.Idx) := by
  refine Eq.trans ?_ (cRect_emb h hs ⟨0, Nat.one_pos⟩ a b)
  rw [← reshapeEquiv_ix2_1ab (squeezes_S1x64x64_S64x64).numel_eq a b]; rfl

theorem xSl_emb {s : ℕ} (h) (a b : Fin 64) (hs : 64 * s + a.val < 1024) :
    (xSl ![64 * s, 0] h).view.emb (ix2 a b) = (ix2 (⟨64 * s + a.val, hs⟩ : Fin 1024) b : S1024x64.Idx) := by
  funext k; apply Fin.ext
  fin_cases k
  · show 64 * s + 1 * a.val = 64 * s + a.val; omega
  · show 0 + 1 * b.val = b.val; omega

theorem wRect_emb {g : ℕ} (h) (a : Fin 256) (b : Fin 1024) (hg : 256 * g + a.val < 1024) :
    (wRect ![256 * g, 0] h).emb (ix2 a b) = (ix2 (⟨256 * g + a.val, hg⟩ : Fin 1024) b : S1024x1024.Idx) := by
  funext k; apply Fin.ext
  fin_cases k
  · show 256 * g + 1 * a.val = 256 * g + a.val; omega
  · show 0 + 1 * b.val = b.val; omega

/-! ## What is moved through them -/

/-- Device `c`'s block for device `t`, written into slab `c` of `t`'s landing buffer, is what the slab is to hold. -/
theorem landed (c t : Dev nD) {o4 : Fin 3 → ℕ} (h4) {o5 : Fin 2 → ℕ} (h5) (e4 : o4 = ![c.val, 0, 0]) (e5 : o5 = ![64 * t.val, 0])
    (fd : Buf (Elt F) ((t : Thread nD τ).loc cc0_scratch3)) : ∀ i ∈ slotSet c.val,
      (cSq o4 h4).view.write (Elt F) fd ((xSl o5 h5).view.read (Elt F) (xF m c)) Finset.univ i = comF m t i := by
  intro i hi
  rw [← cSq_set h4 e4] at hi
  subst e4 e5
  obtain ⟨x, -, rfl⟩ := Finset.mem_map.mp hi
  rw [View.write_emb_of_mem _ _ (Finset.mem_univ x)]
  obtain ⟨a, b, rfl⟩ : ∃ a b, x = ix2 a b := ⟨_, _, eq_ix2 x⟩
  rw [cSq_emb h4 (dev_lt c) a b]
  show xF m c ((xSl ![64 * t.val, 0] h5).view.emb (ix2 a b)) = _
  rw [xSl_emb h5 a b (row_lt t a)]
  rfl

/-- A chunk of the right operand copied into its place in VMEM is that chunk. -/
theorem wCopied {o : Fin 2 → ℕ} (h) {g : ℕ} (hg : g < 4) (e : o = ![256 * g, 0]) (fd f : Vec F S1024x1024 .bf16) : ∀ i ∈ wSet g,
      (wSl o h).view.write (Elt F) fd ((waSl o h).view.read (Elt F) f) Finset.univ i = f i := by
  intro i hi
  rw [← wSl_set h e] at hi
  obtain ⟨x, -, rfl⟩ := Finset.mem_map.mp hi
  rw [View.write_emb_of_mem _ _ (Finset.mem_univ x)]
  rfl

theorem xCopied (fd f : Vec F S1024x64 .bf16) : xM.view.write (Elt F) fd (xaM.view.read (Elt F) f) Finset.univ = f := by
  show (View.whole cc0_scratch0).write (Elt F) fd ((View.whole main_arg0).read (Elt F) f) Finset.univ = f
  rw [View.read_whole]; exact View.write_whole_univ _ _ _

theorem oCopied (fd f : Vec F S64x1024 .f32) : oaM.view.write (Elt F) fd (oM.view.read (Elt F) f) Finset.univ = f := by
  show (View.whole main_v1).write (Elt F) fd ((View.whole cc0_scratch2).read (Elt F) f) Finset.univ = f
  rw [View.read_whole]; exact View.write_whole_univ _ _ _

/-- A load of slab `s` once everything has landed. -/
theorem read_slot (c : Dev nD) {o : Fin 3 → ℕ} (h) {s : ℕ} (hs : s < 16) (e : o = ![s, 0, 0]) :
    (cM.access (cRect o h)).read (Elt F) (comF m c) = slotVal m c s := by
  subst e
  funext x
  obtain ⟨u, a, b, rfl⟩ : ∃ u a b, x = ix3 u a b := ⟨_, _, _, eq_ix3 x⟩
  show comF m c ((cRect ![s, 0, 0] h).emb (ix3 u a b)) = _
  rw [cRect_emb h hs]
  unfold slotVal
  congr 1
  have : (⟨s, hs⟩ : Fin 16) = ⟨s % 16, Nat.mod_lt _ (by decide)⟩ := Fin.ext (Nat.mod_eq_of_lt hs).symm
  rw [this]

/-- A load of chunk `g` of the right operand. -/
theorem read_w (c : Dev nD) {o : Fin 2 → ℕ} (h) {g : ℕ} (hg : g < 4) (e : o = ![256 * g, 0]) :
    (wM.access (wRect o h)).read (Elt F) (wF m c) = wVal m c g := by
  subst e
  funext x
  obtain ⟨a, b, rfl⟩ : ∃ (a : Fin 256) (b : Fin 1024), x = ix2 a b := ⟨_, _, eq_ix2 x⟩
  have ha := a.isLt
  show wF m c ((wRect ![256 * g, 0] h).emb (ix2 a b)) = _
  rw [wRect_emb h a b (by omega)]
  unfold wVal
  congr 1
  have : (⟨256 * g + a.val, by omega⟩ : Fin 1024) = ⟨(256 * g + a.val) % 1024, Nat.mod_lt _ (by decide)⟩ := Fin.ext (Nat.mod_eq_of_lt (by omega)).symm
  rw [this]

/-- Device `c`'s own block, loaded from the left operand's copy and stored into its own slab, is what that slab is to hold. -/
theorem own_slot (c : Dev nD) {o1 : Fin 2 → ℕ} (h1) {o2 : Fin 3 → ℕ} (h2) (e1 : o1 = ![64 * c.val, 0]) (e2 : o2 = ![c.val, 0, 0])
    (f : Buf (Elt F) ((c : Thread nD τ).loc cc0_scratch3)) : ∀ i ∈ slotSet c.val,
      (cM.access (cRect o2 h2)).write (Elt F) f (k0_pay1 (xM.view.readAt (Elt F) (xRect o1 h1).toLoadRect (xF m c))) Finset.univ i = comF m c i := by
  intro i hi
  rw [← cAccess_set h2 e2] at hi
  subst e1 e2
  obtain ⟨x, -, rfl⟩ := Finset.mem_map.mp hi
  rw [View.write_emb_of_mem _ _ (Finset.mem_univ x)]
  obtain ⟨u, a, b, rfl⟩ : ∃ (u : Fin 1) (a b : Fin 64), x = ix3 u a b := ⟨_, _, _, eq_ix3 x⟩
  show k0_pay1 (xM.view.readAt (Elt F) (xRect ![64 * c.val, 0] h1).toLoadRect (xF m c)) (ix3 u a b) = comF m c ((cRect ![c.val, 0, 0] h2).emb (ix3 u a b))
  rw [cRect_emb h2 (dev_lt c)]
  unfold k0_pay1
  refine (shapeCast_ab_1ab_apply _ _ u a b).trans ?_
  show xF m c ((xSl ![64 * c.val, 0] h1).view.emb (ix2 a b)) = _
  rw [xSl_emb h1 a b (row_lt c a)]
  rfl

theorem hz2 : (![0, 0] : Fin 2 → Nat) = fun _ => 0 := funext fun a => by fin_cases a <;> rfl

/-! ## The semaphores the kernel names, and what its transfers credit them with -/

theorem cSq_credit (o h) : (cSq o h).view.dmaCredit = Nb := rfl
theorem xSl_credit (o h) : (xSl o h).view.dmaCredit = Nb := rfl
theorem wSl_credit (o h) : (wSl o h).view.dmaCredit = Nw := rfl

theorem recv_sem {o : Fin 1 → ℕ} (h) {s : ℕ} (hs : s < 16) (e : o = ![s]) :
    ((cc0_scratch5.slice (Rect.unit (s := S16) o S1.size h)).squeeze S_ squeezes_S1_S_ : DmaSems sig S_).sem = dmaS (15 + s) := by
  subst e; interval_cases s <;> clear hs <;> exact Fin.ext (by revert h; decide)

theorem send_sem {o : Fin 1 → ℕ} (h) {s : ℕ} (hs : s < 15) (e : o = ![s]) :
    ((cc0_scratch4.slice (Rect.unit (s := S15) o S1.size h)).squeeze S_ squeezes_S1_S_ : DmaSems sig S_).sem = dmaS s := by
  subst e; interval_cases s <;> clear hs <;> exact Fin.ext (by revert h; decide)

theorem w_sem {o : Fin 1 → ℕ} (h) {s : ℕ} (hs : s < 4) (e : o = ![s]) :
    ((cc0_scratch6.slice (Rect.unit (s := S4) o S1.size h)).squeeze S_ squeezes_S1_S_ : DmaSems sig S_).sem = dmaS (31 + s) := by
  subst e; interval_cases s <;> clear hs <;> exact Fin.ext (by revert h; decide)

theorem x_sem : (cc0_scratch7 : DmaSems sig S_).sem = dmaS 35 := rfl
theorem o_sem : (cc0_scratch8 : DmaSems sig S_).sem = dmaS 36 := rfl
/-- The word the kernel computes for its device's number. -/
abbrev word (c : Dev nD) : BitVec 32 := Scalar.remsi (Scalar.divsi (Dev.word c) 1#32) 16#32
/-- The kernel waits for slab `s` unless `s` is its own device. -/
theorem cond_iff (c : Dev nD) {s : ℕ} (hs : s < 16) :
    Scalar.cmpi .ne (Scalar.extui (Scalar.cmpi .ne (word c) (BitVec.ofNat 32 s)) : BitVec 32) 0#32 = 1#1 ↔ s ≠ c.val := by
  have h : ∀ (c : Dev nD) (s : Fin 16), Scalar.cmpi .ne (Scalar.extui (Scalar.cmpi .ne (word c) (BitVec.ofNat 32 s.val)) : BitVec 32) 0#32 = 1#1 ↔ s.val ≠ c.val := by decide
  exact h c ⟨s, hs⟩

/-! ## Whole buffers as their parts -/

/-- Elements grouped by a number below `n`: the parts cover the buffer and share nothing. -/
theorem whole_parts {c : Dev nD} {b : Ref sig .tc} (n : ℕ) (key : Idx ((c : Thread nD τ).loc b) → ℕ) (hk : ∀ i, key i < n)
    (f : Buf (Elt F) ((c : Thread nD τ).loc b)) :
    ((c : Thread nD τ).loc b ↦{fullShare} f : sProp 𝕄)
      = bigSep (Finset.range n) fun s => (c : Thread nD τ).loc b ↦[Finset.univ.filter fun i => key i = s]{fullShare} f := by
  rw [← pointsTo_biUnion (Finset.range n) (fun s => Finset.univ.filter fun i => key i = s)
    (fun t _ t' _ hne => Finset.disjoint_filter.mpr fun i _ h h' => hne (h.symm.trans h'))]
  congr 1
  ext i
  simp only [Finset.mem_univ, Finset.mem_biUnion, Finset.mem_range, Finset.mem_filter, true_and, true_iff]
  exact ⟨key i, hk i, rfl⟩

theorem com_parts (c : Dev nD) (f : Buf (Elt F) ((c : Thread nD τ).loc cc0_scratch3)) :
    ((c : Thread nD τ).loc cc0_scratch3 ↦{fullShare} f : sProp 𝕄) = bigSep (Finset.range 16) fun s => slotPts c s f :=
  whole_parts (c := c) (b := cc0_scratch3) 16 (fun i => (i 0).val) (fun i => (i 0).isLt) f

theorem x_parts (c : Dev nD) (f : Buf (Elt F) ((c : Thread nD τ).loc cc0_scratch0)) :
    ((c : Thread nD τ).loc cc0_scratch0 ↦{fullShare} f : sProp 𝕄) = bigSep (Finset.range 16) fun s => xPts c s f :=
  whole_parts (c := c) (b := cc0_scratch0) 16 (fun i => (i 0).val / 64) (fun i => by have : (i 0).val < 1024 := (i 0).isLt; omega) f

theorem w_parts (c : Dev nD) (f : Buf (Elt F) ((c : Thread nD τ).loc cc0_scratch1)) :
    ((c : Thread nD τ).loc cc0_scratch1 ↦{fullShare} f : sProp 𝕄) = bigSep (Finset.range 4) fun s => wPts c s f :=
  whole_parts (c := c) (b := cc0_scratch1) 4 (fun i => (i 0).val / 256) (fun i => by have : (i 0).val < 1024 := (i 0).isLt; omega) f

theorem wa_parts (c : Dev nD) (f : Buf (Elt F) ((c : Thread nD τ).loc main_arg1)) :
    ((c : Thread nD τ).loc main_arg1 ↦{fullShare} f : sProp 𝕄) = bigSep (Finset.range 4) fun s => waPts c s f :=
  whole_parts (c := c) (b := main_arg1) 4 (fun i => (i 0).val / 256) (fun i => by have : (i 0).val < 1024 := (i 0).isLt; omega) f

end Cert.Exchange

end
-- ==== Proof.Steps.lean ====
/-
# The operations' effects, one rule for every device, round and slab

Each repeated operation of the kernel — a signal, a send, a wait for a slab, a wait for a send, a chunk's copy — is one
rule here, over the state its whole phase moves through: how much of the phase is done and how much is left.
-/
module

public import proofs.«01_k».proof.Proof.Views

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- The weakest precondition of a program of device `c`. -/
abbrev wpc {α : Type} (p : Prog (TpuEff nD τ sig (Elt F) Λ₀ .tc) α) (Q : α → sProp 𝕄) : sProp 𝕄 :=
  wp frame (wpE (defs₀ (F := F)) 𝒱₀ (c : Thread nD τ) none) Set.univ p Q

theorem wpc_ret {α : Type} (a : α) (Q : α → sProp 𝕄) : Q a ⊢ wpc c (.ret a) Q := by
  unfold wpc; rw [wp_ret]
  iintro H; imodintro; iexact H

/-- Device `c` owes `O`, whatever it has waited for. -/
def owesE (O : CellTallies nD τ sig Unit) : sProp 𝕄 := iprop(∃ W, owes (c : Thread nD τ) O W)

/-! ## Families over the numbers left and the numbers done -/

theorem left_head {Φ : ℕ → sProp 𝕄} {k n : ℕ} (h : k < n) :
    bigSep (Finset.Ico k n) Φ = iprop(Φ k ∗ bigSep (Finset.Ico (k + 1) n) Φ) := by
  rw [← Finset.insert_Ico_add_one_left_eq_Ico h, bigSep_insert (by simp)]; rfl

theorem done_last {Φ : ℕ → sProp 𝕄} {k : ℕ} :
    bigSep (Finset.range (k + 1)) Φ = iprop(Φ k ∗ bigSep (Finset.range k) Φ) := by
  rw [Finset.range_add_one, bigSep_insert (by simp)]; rfl

theorem left_none (Φ : ℕ → sProp 𝕄) (n : ℕ) : bigSep (Finset.Ico n n) Φ = iprop(emp) := by
  rw [Finset.Ico_self, bigSep_empty]; rfl

theorem done_none (Φ : ℕ → sProp 𝕄) : bigSep (Finset.range 0) Φ = iprop(emp) := by
  rw [Finset.range_zero, bigSep_empty]; rfl

theorem left_all (Φ : ℕ → sProp 𝕄) (n : ℕ) : bigSep (Finset.Ico 0 n) Φ = bigSep (Finset.range n) Φ := by
  rw [← Finset.range_eq_Ico]

theorem at_one {I : Type} [DecidableEq I] {S : Finset I} {Φ : I → sProp 𝕄} {i : I} (h : i ∈ S) : bigSep S Φ = iprop(Φ i ∗ bigSep (S.erase i) Φ) :=
  bigSep_erase h

/-! ## Signals -/

/-- The phase of signals, `k` of them given: the tokens and slabs still to hand over. -/
def SigSt (k : ℕ) : sProp 𝕄 :=
  iprop(owesE c (Osig c k) ∗ bigSep (Finset.Ico k 15) (fun j => dutyTok ER (bCell (tgt c j)) 0 (14 - j))
    ∗ bigSep (Finset.Ico k 15) (fun j => iprop(∃ f, slotPts (F := F) c (tgt c j).val f)))

/-- The `j`-th signal, to the device `j + 1` places on. -/
theorem sig_step (n : Dev nD) (j : ℕ) (hj : j < 15) (hn : n.val = (c.val + j + 1) % 16) {α : Type} {Q : α → sProp 𝕄}
    {k : PUnit → Prog (TpuEff nD τ sig (Elt F) Λ₀ .tc) α} :
    iprop(records m K ∗ SigSt c j)
      ⊢ iprop((SigSt c (j + 1) -∗ wpc c (k ⟨⟩) Q) -∗ wpc c (.op (.semSignal (n : Thread nD τ) barS (1#32 : BitVec 32).toInt) k) Q) := by
  obtain rfl : n = tgt c j := Fin.ext hn
  unfold SigSt owesE
  rw [left_head hj, left_head hj, Osig_succ c hj]
  iintro ⟨#HR, ⟨%W, HO⟩, ⟨Ht, Hts⟩, ⟨⟨%f, Hs⟩, Hss⟩⟩ Hk
  iapply (Rounds.wp_signal 𝒱₀ ER (Rd m) (c : Thread nD τ) none (dst := (tgt c j : Thread nD τ)) (κ := K (tgt c j, .reg barS))
      (d := 14 - j) (by rw [duties_bar]; exact Finset.mem_range.mpr (by omega)) ((amount_bar m (tgt c j) (14 - j)).trans (by decide)) () (Osig c (j + 1)) rfl)
    $$ [HO Ht Hs]
  · isplitr; · iapply (inv_at m K (tgt c j) (.reg barS)); iexact HR
    isplitl [HO]; · iexact HO
    isplitl [Ht]; · iexact Ht
    isplitl [Hs]
    · rw [payload_bar]; unfold barPay; rw [tgt_tgt c hj]; iexists f; iexact Hs
    iapply (reached_at m K (tgt c j) (.reg barS)); iexact HR
  iintro HO
  iapply Hk
  isplitl [HO]; · iexists W; iexact HO
  isplitl [Hts] <;> iassumption

/-! ## A wait for everything a transfer semaphore is due -/

/-- A wait on transfer semaphore `q` for its whole amount, and the semaphore closed: its payload, and its counter at zero. -/
theorem wait_dma {sp sp' : Space} {s s' : Shape} {e e' : EltTy} (q : ℕ) (hq : q < 37) (hne : q ≠ 15 + c.val) (n : ℕ) (hn : n = if q < 31 then Nb else if q < 35 then Nw else if q < 36 then Nx else No)
    (sem : DmaSem sig) (hs : sem = dmaS q)
    {src : Memref sig .tc sp' s' e'} {κ' : Kind} {dst : Memref sig κ' sp s e} (hd : dst.view.dmaCredit = n) {hsrc : src.view.WordExact} {hdst : dst.view.WordExact}
    (O : CellTallies nD τ sig Unit) (hO : records m K ⊢ MayWait (c : Thread nD τ) (.dma (dmaS q)) () O)
    {α : Type} {Q : α → sProp 𝕄} {k : PUnit → Prog (TpuEff nD τ sig (Elt F) Λ₀ .tc) α} :
    iprop(records m K ∗ owesE c O ∗ cred (tallyAt (dCell c q) () n) ∗ atPos ER (dCell c q) 0 ∅ 0)
      ⊢ iprop(((owesE c O ∗ dmaPay m c q ∗ semVal (dCell c q) 0) -∗ wpc c (k ⟨⟩) Q)
          -∗ wpc c (.op (.waitDma2 sem src dst hsrc hdst) k) Q) := by
  subst hs hd
  unfold owesE
  iintro ⟨#HR, ⟨%W, HO⟩, Hc, Ha⟩ Hk
  iapply (Rounds.wp_wait_rest_token 𝒱₀ ER (Rd m) (c : Thread nD τ) none (κ := K (c, .dma (dmaS q)))
      (wpE_waitDma2_eq 𝒱₀ (c : Thread nD τ) none Set.univ) (Set.mem_univ _) () (O := O) (W := W) (R := 0) (m := 0) (T := ∅)
      (by rw [expect_dma m c hq hne, Nat.zero_add]; exact hn)) $$ [Hc HO Ha]
  · isplitr; · iapply (inv_at m K c (.dma (dmaS q))); iexact HR
    isplitl [Hc]; · iexact Hc
    isplitl [HO]; · iexact HO
    isplitr; · iapply hO; iexact HR
    iexact Ha
  iintro ⟨HO, Ha, -, Hp⟩
  ihave Hp := (Entails.of_eq (rest_dma m c hq hne)) $$ Hp
  imod (Rounds.cell_close ER (Rd m) (Set.mem_univ (K (c, .dma (dmaS q)))) (fun h => h) (R := 0 + 1) (duties_later m (dCell c q))) $$ [Ha] with Hz
  · isplitr; · iapply (inv_at m K c (.dma (dmaS q))); iexact HR
    iexact Ha
  iapply Hk
  isplitl [HO]; · iexists (insert (SemLoc.dma (dmaS q), ()) W); iexact HO
  isplitl [Hp] <;> iassumption

/-! ## The operands' copies into VMEM -/

/-- What starting chunk `g`'s copy takes. -/
def WPre (g : ℕ) : sProp 𝕄 :=
  iprop(dutyTok ER (dCell c (31 + g)) 0 0 ∗ (∃ f, wPts (F := F) c g f) ∗ waPts c g (wF m c))

/-- The right operand's copies, `k` of them started. -/
def WSt (k : ℕ) : sProp 𝕄 :=
  iprop(bigSep (Finset.Ico k 4) (WPre m c) ∗ bigSep (Finset.range k) (fun g => cred (tallyAt (dCell c (31 + g)) () Nw)))

/-- The left operand's copy starts. -/
theorem x_start (sem : DmaSem sig) (hs : sem = dmaS 35) {hsrc : xaM.view.WordExact} {hdst : xM.view.WordExact}
    {hsem : (DmaTarget.here xM : DmaTarget nD τ sig .tc .vmem S1024x64 .bf16).Typed .hbm (.dma sem)} {α : Type} {Q : α → sProp 𝕄}
    {k : PUnit → Prog (TpuEff nD τ sig (Elt F) Λ₀ .tc) α} :
    iprop(records m K ∗ dutyTok ER (dCell c 35) 0 0 ∗ ((c : Thread nD τ).loc main_arg0 ↦{fullShare} xF m c)
        ∗ (∃ f : Buf (Elt F) ((c : Thread nD τ).loc cc0_scratch0), (c : Thread nD τ).loc cc0_scratch0 ↦{fullShare} f))
      ⊢ iprop((cred (tallyAt (dCell c 35) () Nx) -∗ wpc c (k ⟨⟩) Q)
          -∗ wpc c (.op (.enqueueDma xaM (.here xM) (.dma sem) hsrc hdst hsem) k) Q) := by
  subst hs
  iintro ⟨#HR, Ht, Ha, ⟨%f, Hx⟩⟩ Hk
  have h1 : xaM.view.set = Finset.univ := View.set_whole _
  have h2 : xM.view.set = Finset.univ := View.set_whole _
  iapply (Rounds.wp_copy_pointsTo 𝒱₀ ER (Rd m) (c : Thread nD τ) none (src := xaM) (dst := xM) (q := fullShare) (fs := xF m c) (fd := f)
      (κ := K (c, .dma (dmaS 35))) (r := 0) (d := 0)
      (by rw [duties_dma m c (by decide) (by have := dev_lt c; omega)]; exact Finset.mem_singleton_self _) () Nx rfl
      (amount_dma m c (by decide) 0)
      (by rw [payload_dma m c (by decide), dmaPay_x, xCopied, h1, h2]; exact BI.Entails.refl _)) $$ [Ht Ha Hx]
  · rw [h1, h2]
    isplitr; · iapply (inv_at m K c (.dma (dmaS 35))); iexact HR
    isplitl [Ha]; · iexact Ha
    isplitl [Hx]; · iexact Hx
    isplitl [Ht]; · iexact Ht
    iapply (reached_at m K c (.dma (dmaS 35))); iexact HR
  iexact Hk

/-- Chunk `g`'s copy starts. -/
theorem w_start (g : ℕ) (hg : g < 4) {o : Fin 2 → ℕ} {h h'} (e : o = ![256 * g, 0]) (sem : DmaSem sig) (hs : sem = dmaS (31 + g))
    {hsrc : (waSl o h).view.WordExact} {hdst : (wSl o h').view.WordExact}
    {hsem : (DmaTarget.here (wSl o h') : DmaTarget nD τ sig .tc .vmem S256x1024 .bf16).Typed .hbm (.dma sem)} {α : Type} {Q : α → sProp 𝕄}
    {k : PUnit → Prog (TpuEff nD τ sig (Elt F) Λ₀ .tc) α} :
    iprop(records m K ∗ WSt m c g)
      ⊢ iprop((WSt m c (g + 1) -∗ wpc c (k ⟨⟩) Q)
          -∗ wpc c (.op (.enqueueDma (waSl o h) (.here (wSl o h')) (.dma sem) hsrc hdst hsem) k) Q) := by
  subst hs
  unfold WSt
  rw [left_head hg, done_last]
  iintro ⟨#HR, ⟨Hp, Hps⟩, Hcs⟩ Hk
  unfold WPre wPts waPts
  icases Hp with ⟨Ht, ⟨%f, Hw⟩, Ha⟩
  have h1 := waSl_set h e
  have h2 := wSl_set h' e
  iapply (Rounds.wp_copy_pointsTo 𝒱₀ ER (Rd m) (c : Thread nD τ) none (src := waSl o h) (dst := wSl o h') (sem := .dma (dmaS (31 + g))) (q := fullShare) (fs := wF m c) (fd := f)
      (κ := K (c, .dma (dmaS (31 + g)))) (r := 0) (d := 0)
      (by rw [duties_dma m c (by omega) (by have := dev_lt c; omega)]; exact Finset.mem_singleton_self _) () Nw (wSl_credit o h')
      ((amount_dma m c (by omega) 0).trans (by rw [if_neg (by omega), if_pos (by omega)]))
      (by
        rw [payload_dma m c (by omega), dmaPay_w m c hg, h1, h2]; unfold wPay wPts waPts
        exact sep_mono_left (Entails.of_eq (pointsTo_congr (wCopied h hg e f (wF m c)))))) $$ [Ht Ha Hw]
  · rw [h1, h2]
    isplitr; · iapply (inv_at m K c (.dma (dmaS (31 + g)))); iexact HR
    isplitl [Ha]; · iexact Ha
    isplitl [Hw]; · iexact Hw
    isplitl [Ht]; · iexact Ht
    iapply (reached_at m K c (.dma (dmaS (31 + g)))); iexact HR
  iintro Hc
  iapply Hk
  isplitl [Hps]; · iexact Hps
  isplitl [Hc] <;> iassumption

/-! ## The wait for the fifteen signals -/

/-- The wait on the barrier: every other device has handed over the slab of its landing buffer that `c` writes. -/
theorem bar_wait {α : Type} {Q : α → sProp 𝕄} {k : PUnit → Prog (TpuEff nD τ sig (Elt F) Λ₀ .tc) α} :
    iprop(records m K ∗ owesE c (Osend c 0) ∗ cred (tallyAt (bCell c) () 15) ∗ atPos ER (bCell c) 0 ∅ 0)
      ⊢ iprop(((owesE c (Osend c 0) ∗ bigSep (Finset.range 15) (barPay (F := F) c) ∗ semVal (bCell c) 0) -∗ wpc c (k ⟨⟩) Q)
          -∗ wpc c (.op (.semWait barS (15#32 : BitVec 32).toInt) k) Q) := by
  unfold owesE
  iintro ⟨#HR, ⟨%W, HO⟩, Hc, Ha⟩ Hk
  iapply (Rounds.wp_wait_rest_token 𝒱₀ ER (Rd m) (c : Thread nD τ) none (κ := K (c, .reg barS))
      (wpE_semWait_eq 𝒱₀ (c : Thread nD τ) none Set.univ) (Set.mem_univ _) () (O := Osend c 0) (W := W) (R := 0) (m := 0) (T := ∅)
      (by rw [expect_bar]; decide)) $$ [Hc HO Ha]
  · isplitr; · iapply (inv_at m K c (.reg barS)); iexact HR
    isplitl [Hc]; · iexact Hc
    isplitl [HO]; · iexact HO
    isplitr; · iapply (mayWait_at m K c 0 (.reg barS) (by decide)); iexact HR
    iexact Ha
  iintro ⟨HO, Ha, -, Hp⟩
  ihave Hp := (Entails.of_eq (rest_bar m c)) $$ Hp
  imod (Rounds.cell_close ER (Rd m) (Set.mem_univ (K (c, .reg barS))) (fun h => h) (R := 0 + 1) (duties_later m (bCell c))) $$ [Ha] with Hz
  · isplitr; · iapply (inv_at m K c (.reg barS)); iexact HR
    iexact Ha
  iapply Hk
  isplitl [HO]; · iexists (insert (SemLoc.reg barS, ()) W); iexact HO
  isplitl [Hp] <;> iassumption

/-! ## Sends -/

/-- What the `j`-th send takes: both tokens it pays with, the block it reads and the slab it writes. -/
def SendPre (j : ℕ) : sProp 𝕄 :=
  iprop(dutyTok ER (dCell c j) 0 0 ∗ dutyTok ER (dCell (tgt c j) (15 + c.val)) 0 0 ∗ xPts c (tgt c j).val (xF m c) ∗ barPay (F := F) c j)

/-- The phase of sends, `k` of them started. -/
def SendSt (k : ℕ) : sProp 𝕄 :=
  iprop(owesE c (Osend c k) ∗ bigSep (Finset.Ico k 15) (SendPre m c) ∗ bigSep (Finset.range k) (fun j => cred (tallyAt (dCell c j) () Nb)))

/-- The `j`-th send, to the device `j + 1` places on. -/
theorem send_step (n : Dev nD) (j : ℕ) (hj : j < 15) (hn : n.val = (c.val + j + 1) % 16)
    {o4 : Fin 3 → ℕ} {h4} (e4 : o4 = ![c.val, 0, 0]) {o5 : Fin 2 → ℕ} {h5} (e5 : o5 = ![64 * ((c.val + j + 1) % 16), 0])
    (sS sR : DmaSem sig) (hS : sS = dmaS j) (hR : sR = dmaS (15 + c.val))
    {hsc : (cSq o4 h4 : Memref sig (Dev.tc n : Thread nD τ).2.kind .vmem S64x64 .bf16).view.ref.isScScratch = false}
    {hsrc : (xSl o5 h5).view.WordExact} {hdst : (cSq o4 h4).view.WordExact}
    {hsem : DmaTarget.Typed .vmem (.dma sR) (.remote (Dev.tc n : Thread nD τ) (cSq o4 h4) (.dma sS) hsc)}
    {α : Type} {Q : α → sProp 𝕄} {k : PUnit → Prog (TpuEff nD τ sig (Elt F) Λ₀ .tc) α} :
    iprop(records m K ∗ SendSt m c j)
      ⊢ iprop((SendSt m c (j + 1) -∗ wpc c (k ⟨⟩) Q)
          -∗ wpc c (.op (.enqueueDma (xSl o5 h5) (.remote (Dev.tc n : Thread nD τ) (cSq o4 h4) (.dma sS) hsc) (.dma sR) hsrc hdst hsem) k) Q) := by
  obtain rfl : n = tgt c j := Fin.ext hn
  subst hS hR
  have hc := dev_lt c
  have hne := tgt_ne c hj
  unfold SendSt owesE
  rw [left_head hj, done_last]
  iintro ⟨#HR, ⟨%W, HO⟩, ⟨Hp, Hps⟩, Hcs⟩ Hk
  unfold SendPre barPay xPts slotPts
  icases Hp with ⟨Ht, Ht', Hx, ⟨%fd, Hd⟩⟩
  have h1 := cSq_set h4 e4
  have h2 : (xSl o5 h5).view.set = xSet (tgt c j).val := xSl_set h5 e5
  iapply (Rounds.wp_send_pointsTo 𝒱₀ ER (Rd m) (c : Thread nD τ) none (c' := (tgt c j : Thread nD τ)) (src := xSl o5 h5) (dst := (cSq o4 h4 : Memref sig (tgt c j : Thread nD τ).2.kind .vmem S64x64 .bf16)) (sS := .dma (dmaS j)) (sem := .dma (dmaS (15 + c.val)))
      (κ₁ := K (c, .dma (dmaS j))) (κ₂ := K (tgt c j, .dma (dmaS (15 + c.val)))) (q := fullShare) (fs := xF m c)
      (r₁ := 0) (r₂ := 0) (d₁ := 0) (d₂ := 0) (fd := fd)
      (by rw [duties_dma m c (by omega) (by omega)]; exact Finset.mem_singleton_self _)
      (by rw [duties_dma m (tgt c j) (by omega) (by omega)]; exact Finset.mem_singleton_self _)
      () () Nb (cSq_credit o4 h4) ((amount_dma m c (by omega) 0).trans (by rw [if_pos (by omega)]))
      ((amount_dma m (tgt c j) (by omega) 0).trans (by rw [if_pos (by omega)])) (Osend c (j + 1)) (Osend_succ c hj) (W := W)
      (by rw [payload_dma m c (by omega), dmaPay_send m c hj, h2]; exact BI.Entails.refl _)
      (by
        rw [payload_dma m (tgt c j) (by omega), dmaPay_recv m (tgt c j) hc, h1]; unfold slotPts
        exact Entails.of_eq (pointsTo_congr (landed m c (tgt c j) h4 h5 e4 e5 fd)))) $$ [HO Ht Ht' Hx Hd]
  · rw [h1, h2]
    isplitr; · iapply (inv_at m K c (.dma (dmaS j))); iexact HR
    isplitr; · iapply (inv_at m K (tgt c j) (.dma (dmaS (15 + c.val)))); iexact HR
    isplitl [Hx]; · iexact Hx
    isplitl [Hd]; · iexact Hd
    isplitl [HO]; · iexact HO
    isplitl [Ht]; · iexact Ht
    isplitr; · iapply (reached_at m K c (.dma (dmaS j))); iexact HR
    isplitl [Ht']; · iexact Ht'
    iapply (reached_at m K (tgt c j) (.dma (dmaS (15 + c.val)))); iexact HR
  iintro ⟨Hc, HO⟩
  iapply Hk
  isplitl [HO]; · iexists W; iexact HO
  isplitl [Hps]; · iexact Hps
  isplitl [Hc] <;> iassumption

/-! ## The waits -/

/-- What the wait for slab `s` takes: nothing but the slab where it is the device's own. -/
def RPre (s : ℕ) : sProp 𝕄 :=
  iprop(atPos ER (dCell c (15 + s)) 0 ∅ 0 ∗ if s = c.val then slotPts c s (comF m c) else cred (tallyAt (dCell c (15 + s)) () Nb))
/-- What it gives. -/
def RDone (s : ℕ) : sProp 𝕄 := iprop(slotPts c s (comF m c) ∗ semVal (dCell c (15 + s)) 0)
/-- What the wait for chunk `g` of the right operand takes and gives. -/
def CPre (g : ℕ) : sProp 𝕄 := iprop(cred (tallyAt (dCell c (31 + g)) () Nw) ∗ atPos ER (dCell c (31 + g)) 0 ∅ 0)
def CDone (g : ℕ) : sProp 𝕄 := iprop(wPts c g (wF m c) ∗ waPts c g (wF m c) ∗ semVal (dCell c (31 + g)) 0)
/-- What the wait for the `j`-th send takes and gives. -/
def SPre (j : ℕ) : sProp 𝕄 := iprop(cred (tallyAt (dCell c j) () Nb) ∗ atPos ER (dCell c j) 0 ∅ 0)
def SDone (j : ℕ) : sProp 𝕄 := iprop(xPts c (tgt c j).val (xF m c) ∗ semVal (dCell c j) 0)

/-- The waits, `r` of the slabs', `g` of the chunks' and `k` of the sends' done. -/
def WaitSt (r g k : ℕ) : sProp 𝕄 :=
  iprop(owesE c 0
    ∗ (bigSep (Finset.Ico r 16) (RPre m c) ∗ bigSep (Finset.range r) (RDone m c))
    ∗ (bigSep (Finset.Ico g 4) (CPre c) ∗ bigSep (Finset.range g) (CDone m c))
    ∗ (bigSep (Finset.Ico k 15) (SPre c) ∗ bigSep (Finset.range k) (SDone m c)))

/-- The wait for slab `r`, which the kernel skips on device `r`. -/
theorem recv_step (r g i : ℕ) (hr : r < 16) {p : Prop} [Decidable p] (hp : p ↔ r ≠ c.val)
    (sem : DmaSem sig) (hs : sem = dmaS (15 + r)) {o4 : Fin 3 → ℕ} {h4} {o5 : Fin 2 → ℕ} {h5}
    {hsrc : (xSl o5 h5).view.WordExact} {hdst : (cSq o4 h4).view.WordExact}
    {α : Type} {Q : α → sProp 𝕄} {k : Prog (TpuEff nD τ sig (Elt F) Λ₀ .tc) α} :
    iprop(records m K ∗ WaitSt m c r g i)
      ⊢ iprop((WaitSt m c (r + 1) g i -∗ wpc c k Q)
          -∗ wpc c (if h : p then Prog.op (.waitDma2 sem (xSl o5 h5) (cSq o4 h4) hsrc hdst) (fun _ => k) else k) Q) := by
  unfold WaitSt
  rw [left_head hr, done_last]
  unfold RPre RDone
  by_cases hc : r = c.val
  · rw [dif_neg (fun h => hp.mp h hc), if_pos hc]
    iintro ⟨#HR, HO, ⟨⟨⟨Ha, Hc⟩, Hrs⟩, Hds⟩, Hw, Hse⟩ Hk
    imod (Rounds.cell_close ER (Rd m) (Set.mem_univ (K (c, .dma (dmaS (15 + r))))) (fun h => h) (g := dCell c (15 + r)) (R := 0)
      (fun q hq => by
        rcases Nat.eq_zero_or_pos q with rfl | h0
        · rw [hc]; exact duties_self m c
        · exact duties_later m (dCell c (15 + r)) q h0)) $$ [Ha] with Hz
    · isplitr; · iapply (inv_at m K c (.dma (dmaS (15 + r)))); iexact HR
      iexact Ha
    iapply Hk
    isplitl [HO]; · iexact HO
    isplitl [Hrs Hds Hc Hz]
    · isplitl [Hrs]; · iexact Hrs
      isplitl [Hc Hz]
      · isplitl [Hc] <;> iassumption
      iexact Hds
    isplitl [Hw] <;> iassumption
  · rw [dif_pos (hp.mpr hc), if_neg hc]
    iintro ⟨#HR, HO, ⟨⟨⟨Ha, Hc⟩, Hrs⟩, Hds⟩, Hw, Hse⟩ Hk
    iapply (wait_dma m K c (15 + r) (by omega) (by omega) Nb (by rw [if_pos (by omega)]) sem hs (cSq_credit o4 h4) 0 (mayWait_none m K c _)) $$ [HO Hc Ha]
    · isplitr; · iexact HR
      isplitl [HO]; · iexact HO
      isplitl [Hc] <;> iassumption
    rw [dmaPay_recv m c hr]
    iintro ⟨HO, Hp, Hz⟩
    iapply Hk
    isplitl [HO]; · iexact HO
    isplitl [Hrs Hds Hp Hz]
    · isplitl [Hrs]; · iexact Hrs
      isplitl [Hp Hz]
      · isplitl [Hp] <;> iassumption
      iexact Hds
    isplitl [Hw] <;> iassumption

/-- The wait for chunk `g` of the right operand. -/
theorem w_wait (r g i : ℕ) (hg : g < 4) (sem : DmaSem sig) (hs : sem = dmaS (31 + g)) {o : Fin 2 → ℕ} {h h'}
    {hsrc : (waSl o h).view.WordExact} {hdst : (wSl o h').view.WordExact}
    {α : Type} {Q : α → sProp 𝕄} {k : PUnit → Prog (TpuEff nD τ sig (Elt F) Λ₀ .tc) α} :
    iprop(records m K ∗ WaitSt m c r g i)
      ⊢ iprop((WaitSt m c r (g + 1) i -∗ wpc c (k ⟨⟩) Q)
          -∗ wpc c (.op (.waitDma2 sem (waSl o h) (wSl o h') hsrc hdst) k) Q) := by
  have hc := dev_lt c
  unfold WaitSt
  rw [left_head hg, done_last]
  unfold CPre CDone
  iintro ⟨#HR, HO, Hr, ⟨⟨⟨Hc, Ha⟩, Hws⟩, Hds⟩, Hse⟩ Hk
  iapply (wait_dma m K c (31 + g) (by omega) (by omega) Nw (by rw [if_neg (by omega), if_pos (by omega)]) sem hs (wSl_credit o h') 0 (mayWait_none m K c _)) $$ [HO Hc Ha]
  · isplitr; · iexact HR
    isplitl [HO]; · iexact HO
    isplitl [Hc] <;> iassumption
  rw [dmaPay_w m c hg]; unfold wPay
  iintro ⟨HO, ⟨Hp, Hp'⟩, Hz⟩
  iapply Hk
  isplitl [HO]; · iexact HO
  isplitl [Hr]; · iexact Hr
  isplitl [Hws Hds Hp Hp' Hz]
  · isplitl [Hws]; · iexact Hws
    isplitl [Hp Hp' Hz]
    · isplitl [Hp]; · iexact Hp
      isplitl [Hp'] <;> iassumption
    iexact Hds
  iexact Hse

/-- The wait for the `j`-th send. -/
theorem send_wait (r g j : ℕ) (hj : j < 15) (sem : DmaSem sig) (hs : sem = dmaS j) {o4 : Fin 3 → ℕ} {h4} {o5 : Fin 2 → ℕ} {h5}
    {hsrc : (cSq o4 h4).view.WordExact} {hdst : (xSl o5 h5).view.WordExact}
    {α : Type} {Q : α → sProp 𝕄} {k : PUnit → Prog (TpuEff nD τ sig (Elt F) Λ₀ .tc) α} :
    iprop(records m K ∗ WaitSt m c r g j)
      ⊢ iprop((WaitSt m c r g (j + 1) -∗ wpc c (k ⟨⟩) Q)
          -∗ wpc c (.op (.waitDma2 sem (cSq o4 h4) (xSl o5 h5) hsrc hdst) k) Q) := by
  have hc := dev_lt c
  unfold WaitSt
  rw [left_head hj, done_last]
  unfold SPre SDone
  iintro ⟨#HR, HO, Hr, Hw, ⟨⟨⟨Hc, Ha⟩, Hss⟩, Hds⟩⟩ Hk
  iapply (wait_dma m K c j (by omega) (by omega) Nb (by rw [if_pos (by omega)]) sem hs (xSl_credit o5 h5) 0 (mayWait_none m K c _)) $$ [HO Hc Ha]
  · isplitr; · iexact HR
    isplitl [HO]; · iexact HO
    isplitl [Hc] <;> iassumption
  rw [dmaPay_send m c hj]
  iintro ⟨HO, Hp, Hz⟩
  iapply Hk
  isplitl [HO]; · iexact HO
  isplitl [Hr]; · iexact Hr
  isplitl [Hw]; · iexact Hw
  isplitl [Hss]; · iexact Hss
  isplitl [Hp Hz]
  · isplitl [Hp] <;> iassumption
  iexact Hds

/-! ## Loads and stores -/

/-- A load of slab `s`, landed. -/
theorem load_slot (r g i s : ℕ) (hs : s < r) (hs' : s < 16) {o : Fin 3 → ℕ} {h} (e : o = ![s, 0, 0])
    {hl : cM.view.LoadsAt (cRect o h).toLoadRect} {α : Type} {Q : α → sProp 𝕄}
    {k : (S1x64x64.Idx → Elt F .bf16) → Prog (TpuEff nD τ sig (Elt F) Λ₀ .tc) α} :
    WaitSt m c r g i
      ⊢ iprop((WaitSt m c r g i -∗ wpc c (k (slotVal m c s)) Q) -∗ wpc c (.op (.load cM (cRect o h).toLoadRect hl) k) Q) := by
  unfold WaitSt
  rw [at_one (Φ := RDone m c) (Finset.mem_range.mpr hs)]
  unfold RDone slotPts
  iintro ⟨HO, ⟨Hr, ⟨Hp, Hz⟩, Hds⟩, Hw, Hse⟩ Hk
  iapply (wp_load_rect 𝒱₀ (c : Thread nD τ) none Set.univ (m := cM) (r := cRect o h) (f := comF m c) (le_of_eq (cAccess_set h e))) $$ Hp
  iintro Hp
  rw [read_slot m c h hs' e]
  iapply Hk
  isplitl [HO]; · iexact HO
  isplitl [Hr Hp Hz Hds]
  · isplitl [Hr]; · iexact Hr
    isplitl [Hp Hz]
    · isplitl [Hp] <;> iassumption
    iexact Hds
  isplitl [Hw] <;> iassumption

/-- A load of chunk `q` of the right operand, copied. -/
theorem load_w (r g i q : ℕ) (hq : q < g) (hq' : q < 4) {o : Fin 2 → ℕ} {h} (e : o = ![256 * q, 0])
    {hl : wM.view.LoadsAt (wRect o h).toLoadRect} {α : Type} {Q : α → sProp 𝕄}
    {k : (S256x1024.Idx → Elt F .bf16) → Prog (TpuEff nD τ sig (Elt F) Λ₀ .tc) α} :
    WaitSt m c r g i
      ⊢ iprop((WaitSt m c r g i -∗ wpc c (k (wVal m c q)) Q) -∗ wpc c (.op (.load wM (wRect o h).toLoadRect hl) k) Q) := by
  unfold WaitSt
  rw [at_one (Φ := CDone m c) (Finset.mem_range.mpr hq)]
  unfold CDone wPts
  iintro ⟨HO, Hr, ⟨Hw, ⟨Hp, Hz⟩, Hds⟩, Hse⟩ Hk
  iapply (wp_load_rect 𝒱₀ (c : Thread nD τ) none Set.univ (m := wM) (r := wRect o h) (f := wF m c) (le_of_eq (wAccess_set h e))) $$ Hp
  iintro Hp
  rw [read_w m c h hq' e]
  iapply Hk
  isplitl [HO]; · iexact HO
  isplitl [Hr]; · iexact Hr
  isplitl [Hw Hp Hz Hds]
  · isplitl [Hw]; · iexact Hw
    isplitl [Hp Hz]
    · isplitl [Hp] <;> iassumption
    iexact Hds
  iexact Hse

/-- The accumulator in VMEM. -/
def oPts (f : Vec F S64x1024 .f32) : sProp 𝕄 := (c : Thread nD τ).loc cc0_scratch2 ↦{fullShare} f

abbrev oRect (h : ∀ a, (![0, 0] : Fin 2 → ℕ) a + S64x1024.size a ≤ S64x1024.size a) : Rect S64x1024 := Rect.unit (s := S64x1024) ![0, 0] S64x1024.size h

theorem load_o (f : Vec F S64x1024 .f32) {h} {hl : oM.view.LoadsAt (oRect h).toLoadRect} {α : Type} {Q : α → sProp 𝕄}
    {k : (S64x1024.Idx → Elt F .f32) → Prog (TpuEff nD τ sig (Elt F) Λ₀ .tc) α} :
    oPts c f ⊢ iprop((oPts c f -∗ wpc c (k f) Q) -∗ wpc c (.op (.load oM (oRect h).toLoadRect hl) k) Q) := by
  unfold oPts
  iintro H Hk
  iapply (wp_load 𝒱₀ (c : Thread nD τ) none Set.univ (m := oM) (r := (oRect h).toLoadRect) (f := f) (Finset.subset_univ _)) $$ H
  iintro H
  rw [show oM.view.readAt (Elt F) (oRect h).toLoadRect f = f from Memref.readAt_unit_zero (Elt F) cc0_scratch2 hz2 _ f]
  iapply Hk; iexact H

theorem store_o (f w : Vec F S64x1024 .f32) {h} {hx : (oM.access (oRect h)).Stores Finset.univ}
    {hm : (Finset.univ : Finset (oRect h).shape.Idx) = Finset.univ ∨ ∀ a, (oRect h).stride a = 1} {α : Type} {Q : α → sProp 𝕄}
    {k : PUnit → Prog (TpuEff nD τ sig (Elt F) Λ₀ .tc) α} :
    oPts c f ⊢ iprop((oPts c w -∗ wpc c (k ⟨⟩) Q) -∗ wpc c (.op (.store oM (oRect h) w Finset.univ hx hm) k) Q) := by
  unfold oPts
  iintro H Hk
  iapply (wp_store 𝒱₀ (c : Thread nD τ) none Set.univ (m := oM) (r := oRect h) (Mk := Finset.univ) (f := f) (Finset.subset_univ _)) $$ H
  iintro H
  rw [show (oM.access (oRect h)).write (Elt F) f w Finset.univ = w from Memref.write_access_unit_zero_univ (Elt F) cc0_scratch2 hz2 _ f w]
  iapply Hk; iexact H

end Cert.Exchange

end
-- ==== Proof.Sends.lean ====
/-
# The first half of the body: the signals, the operands' copies, the barrier, the sends

One theorem per stretch of the program, over the state of the phases it moves through.

-/
module

public import proofs.«01_k».proof.Proof.Steps

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- A stretch of the program at the kernel's own buffers and semaphores. -/
abbrev atBufs {β : Type 1}
    (p : (a0 : Memref sig .tc .hbm S1024x64 .bf16) → a0.IsWhole → (a1 : Memref sig .tc .hbm S1024x1024 .bf16) → a1.IsWhole
      → (a2 : Memref sig .tc .hbm S64x1024 .f32) → a2.IsWhole → (a3 : Memref sig .tc .vmem S1024x64 .bf16) → a3.IsWhole
      → (a4 : Memref sig .tc .vmem S1024x1024 .bf16) → a4.IsWhole → (a5 : Memref sig .tc .vmem S64x1024 .f32) → a5.IsWhole
      → (a6 : Memref sig .tc .vmem S16x64x64 .bf16) → a6.IsWhole
      → DmaSems sig S15 → DmaSems sig S16 → DmaSems sig S4 → DmaSems sig S_ → DmaSems sig S_ → β) : β :=
  p xaM (Memref.isWhole_whole _) waM (Memref.isWhole_whole _) oaM (Memref.isWhole_whole _) xM (Memref.isWhole_whole _)
    wM (Memref.isWhole_whole _) oM (Memref.isWhole_whole _) cM (Memref.isWhole_whole _)
    cc0_scratch4 cc0_scratch5 cc0_scratch6 cc0_scratch7 cc0_scratch8

/-- The barrier's semaphore, as the program passes it around. -/
abbrev barA : Sems sig S_ := SemArray.scalar (sig.barrier 0 rfl)

/-- The first five signals; the program has its device and that device's number as a word. -/
theorem part1_spec (Q : (Σ' (d0 : Dev nD) (v2 : BitVec 32) (v3 : Sems sig S_) (v24 : BitVec 32), BitVec 32) → sProp 𝕄) :
    iprop(records m K ∗ SigSt c 0 ∗ (∀ u v, SigSt c 5 -∗ Q ⟨c, word c, barA, u, v⟩))
      ⊢ wpc c (atBufs (k0_part1 (F := F))) Q := by
  simp only [k0_part1_eq_skeleton]; unfold k0_part1_skel
  simp only [semSignalWord, semWaitWord, Prog.lift, Prog.bind_op, Prog.bind_ret, Prog.pure_eq_ret, wp_deviceId]
  iintro ⟨#HR, HS, Hk⟩
  iapply (sig_step m K c _ 0 (by decide) (k0_dev1_eq c)) $$ [HS]
  · isplitr; · iexact HR
    iexact HS
  iintro HS
  iapply (sig_step m K c _ 1 (by decide) (k0_dev2_eq c)) $$ [HS]
  · isplitr; · iexact HR
    iexact HS
  iintro HS
  iapply (sig_step m K c _ 2 (by decide) (k0_dev3_eq c)) $$ [HS]
  · isplitr; · iexact HR
    iexact HS
  iintro HS
  iapply (sig_step m K c _ 3 (by decide) (k0_dev4_eq c)) $$ [HS]
  · isplitr; · iexact HR
    iexact HS
  iintro HS
  iapply (sig_step m K c _ 4 (by decide) (k0_dev5_eq c)) $$ [HS]
  · isplitr; · iexact HR
    iexact HS
  iintro HS
  iapply (wpc_ret c)
  iapply Hk; iexact HS

/-- The next six signals. -/
theorem part2_spec (v2 u v : BitVec 32) (Q : (Σ' (v48 : BitVec 32), BitVec 32) → sProp 𝕄) :
    iprop(records m K ∗ SigSt c 5 ∗ (∀ u v, SigSt c 11 -∗ Q ⟨u, v⟩))
      ⊢ wpc c (atBufs (k0_part2 (F := F)) c v2 barA u v) Q := by
  simp only [k0_part2_eq_skeleton]; unfold k0_part2_skel
  simp only [semSignalWord, semWaitWord, Prog.lift, Prog.bind_op, Prog.bind_ret, Prog.pure_eq_ret, wp_deviceId]
  iintro ⟨#HR, HS, Hk⟩
  iapply (sig_step m K c _ 5 (by decide) (k0_dev6_eq c)) $$ [HS]
  · isplitr; · iexact HR
    iexact HS
  iintro HS
  iapply (sig_step m K c _ 6 (by decide) (k0_dev7_eq c)) $$ [HS]
  · isplitr; · iexact HR
    iexact HS
  iintro HS
  iapply (sig_step m K c _ 7 (by decide) (k0_dev8_eq c)) $$ [HS]
  · isplitr; · iexact HR
    iexact HS
  iintro HS
  iapply (sig_step m K c _ 8 (by decide) (k0_dev9_eq c)) $$ [HS]
  · isplitr; · iexact HR
    iexact HS
  iintro HS
  iapply (sig_step m K c _ 9 (by decide) (k0_dev10_eq c)) $$ [HS]
  · isplitr; · iexact HR
    iexact HS
  iintro HS
  iapply (sig_step m K c _ 10 (by decide) (k0_dev11_eq c)) $$ [HS]
  · isplitr; · iexact HR
    iexact HS
  iintro HS
  iapply (wpc_ret c)
  iapply Hk; iexact HS

/-- The last four signals, the left operand's copy and the right operand's first two. -/
theorem part3_spec (v2 u v : BitVec 32) (Q : PUnit → sProp 𝕄) :
    iprop(records m K ∗ SigSt c 11 ∗ WSt m c 0 ∗ dutyTok ER (dCell c 35) 0 0 ∗ ((c : Thread nD τ).loc main_arg0 ↦{fullShare} xF m c)
        ∗ (∃ f : Buf (Elt F) ((c : Thread nD τ).loc cc0_scratch0), (c : Thread nD τ).loc cc0_scratch0 ↦{fullShare} f)
        ∗ ((SigSt c 15 ∗ WSt m c 2 ∗ cred (tallyAt (dCell c 35) () Nx)) -∗ Q ⟨⟩))
      ⊢ wpc c (atBufs (k0_part3 (F := F)) c v2 barA u v) Q := by
  simp only [k0_part3_eq_skeleton]; unfold k0_part3_skel
  simp only [semSignalWord, semWaitWord, Prog.lift, Prog.bind_op, Prog.bind_ret, Prog.pure_eq_ret, wp_deviceId]
  iintro ⟨#HR, HS, HW, Ht, Ha, Hx, Hk⟩
  iapply (sig_step m K c _ 11 (by decide) (k0_dev12_eq c)) $$ [HS]
  · isplitr; · iexact HR
    iexact HS
  iintro HS
  iapply (sig_step m K c _ 12 (by decide) (k0_dev13_eq c)) $$ [HS]
  · isplitr; · iexact HR
    iexact HS
  iintro HS
  iapply (sig_step m K c _ 13 (by decide) (k0_dev14_eq c)) $$ [HS]
  · isplitr; · iexact HR
    iexact HS
  iintro HS
  iapply (sig_step m K c _ 14 (by decide) (k0_dev15_eq c)) $$ [HS]
  · isplitr; · iexact HR
    iexact HS
  iintro HS
  iapply (x_start m K c _ x_sem) $$ [Ht Ha Hx]
  · isplitr; · iexact HR
    isplitl [Ht]; · iexact Ht
    isplitl [Ha] <;> iassumption
  iintro Hc
  iapply (w_start m K c 0 (by decide) rfl _ (w_sem _ (by decide) rfl)) $$ [HW]
  · isplitr; · iexact HR
    iexact HW
  iintro HW
  iapply (w_start m K c 1 (by decide) rfl _ (w_sem _ (by decide) rfl)) $$ [HW]
  · isplitr; · iexact HR
    iexact HW
  iintro HW
  iapply (wpc_ret c)
  iapply Hk
  isplitl [HS]; · iexact HS
  isplitl [HW] <;> iassumption

/-- Sends 2 to 3. -/
theorem part5_spec (v2 w : BitVec 32) (Q : PUnit → sProp 𝕄) :
    iprop(records m K ∗ SendSt m c 1 ∗ (SendSt m c 3 -∗ Q ⟨⟩))
      ⊢ wpc c (atBufs (k0_part5 (F := F)) c v2 w) Q := by
  simp only [k0_part5_eq_skeleton]; unfold k0_part5_skel
  simp only [semSignalWord, semWaitWord, Prog.lift, Prog.bind_op, Prog.bind_ret, Prog.pure_eq_ret, wp_deviceId]
  iintro ⟨#HR, HS, Hk⟩
  iapply (send_step m K c _ 1 (by decide) (k0_dev17_eq c) (k0_off4_eq c) (k0_off5_eq c (1 : Fin 15)) _ _ (send_sem _ (by decide) rfl)
      (recv_sem _ (dev_lt c) (k0_off3_eq c))) $$ [HS]
  · isplitr; · iexact HR
    iexact HS
  iintro HS
  iapply (send_step m K c _ 2 (by decide) (k0_dev18_eq c) (k0_off4_eq c) (k0_off5_eq c (2 : Fin 15)) _ _ (send_sem _ (by decide) rfl)
      (recv_sem _ (dev_lt c) (k0_off3_eq c))) $$ [HS]
  · isplitr; · iexact HR
    iexact HS
  iintro HS
  iapply (wpc_ret c)
  iapply Hk; iexact HS

/-- Sends 4 to 6. -/
theorem part6_spec (v2 : BitVec 32) (Q : PUnit → sProp 𝕄) :
    iprop(records m K ∗ SendSt m c 3 ∗ (SendSt m c 6 -∗ Q ⟨⟩))
      ⊢ wpc c (atBufs (k0_part6 (F := F)) c v2) Q := by
  simp only [k0_part6_eq_skeleton]; unfold k0_part6_skel
  simp only [semSignalWord, semWaitWord, Prog.lift, Prog.bind_op, Prog.bind_ret, Prog.pure_eq_ret, wp_deviceId]
  iintro ⟨#HR, HS, Hk⟩
  iapply (send_step m K c _ 3 (by decide) (k0_dev19_eq c) (k0_off4_eq c) (k0_off5_eq c (3 : Fin 15)) _ _ (send_sem _ (by decide) rfl)
      (recv_sem _ (dev_lt c) (k0_off3_eq c))) $$ [HS]
  · isplitr; · iexact HR
    iexact HS
  iintro HS
  iapply (send_step m K c _ 4 (by decide) (k0_dev20_eq c) (k0_off4_eq c) (k0_off5_eq c (4 : Fin 15)) _ _ (send_sem _ (by decide) rfl)
      (recv_sem _ (dev_lt c) (k0_off3_eq c))) $$ [HS]
  · isplitr; · iexact HR
    iexact HS
  iintro HS
  iapply (send_step m K c _ 5 (by decide) (k0_dev21_eq c) (k0_off4_eq c) (k0_off5_eq c (5 : Fin 15)) _ _ (send_sem _ (by decide) rfl)
      (recv_sem _ (dev_lt c) (k0_off3_eq c))) $$ [HS]
  · isplitr; · iexact HR
    iexact HS
  iintro HS
  iapply (wpc_ret c)
  iapply Hk; iexact HS

/-- Sends 7 to 9. -/
theorem part7_spec (v2 : BitVec 32) (Q : (Σ' (v196 : BitVec 32), BitVec 32) → sProp 𝕄) :
    iprop(records m K ∗ SendSt m c 6 ∗ (∀ u v, SendSt m c 9 -∗ Q ⟨u, v⟩))
      ⊢ wpc c (atBufs (k0_part7 (F := F)) c v2) Q := by
  simp only [k0_part7_eq_skeleton]; unfold k0_part7_skel
  simp only [semSignalWord, semWaitWord, Prog.lift, Prog.bind_op, Prog.bind_ret, Prog.pure_eq_ret, wp_deviceId]
  iintro ⟨#HR, HS, Hk⟩
  iapply (send_step m K c _ 6 (by decide) (k0_dev22_eq c) (k0_off4_eq c) (k0_off5_eq c (6 : Fin 15)) _ _ (send_sem _ (by decide) rfl)
      (recv_sem _ (dev_lt c) (k0_off3_eq c))) $$ [HS]
  · isplitr; · iexact HR
    iexact HS
  iintro HS
  iapply (send_step m K c _ 7 (by decide) (k0_dev23_eq c) (k0_off4_eq c) (k0_off5_eq c (7 : Fin 15)) _ _ (send_sem _ (by decide) rfl)
      (recv_sem _ (dev_lt c) (k0_off3_eq c))) $$ [HS]
  · isplitr; · iexact HR
    iexact HS
  iintro HS
  iapply (send_step m K c _ 8 (by decide) (k0_dev24_eq c) (k0_off4_eq c) (k0_off5_eq c (8 : Fin 15)) _ _ (send_sem _ (by decide) rfl)
      (recv_sem _ (dev_lt c) (k0_off3_eq c))) $$ [HS]
  · isplitr; · iexact HR
    iexact HS
  iintro HS
  iapply (wpc_ret c)
  iapply Hk; iexact HS

/-- Sends 10 to 12. -/
theorem part8_spec (v2 u v : BitVec 32) (Q : BitVec 32 → sProp 𝕄) :
    iprop(records m K ∗ SendSt m c 9 ∗ (∀ u, SendSt m c 12 -∗ Q u))
      ⊢ wpc c (atBufs (k0_part8 (F := F)) c v2 u v) Q := by
  simp only [k0_part8_eq_skeleton]; unfold k0_part8_skel
  simp only [semSignalWord, semWaitWord, Prog.lift, Prog.bind_op, Prog.bind_ret, Prog.pure_eq_ret, wp_deviceId]
  iintro ⟨#HR, HS, Hk⟩
  iapply (send_step m K c _ 9 (by decide) (k0_dev25_eq c) (k0_off4_eq c) (k0_off5_eq c (9 : Fin 15)) _ _ (send_sem _ (by decide) rfl)
      (recv_sem _ (dev_lt c) (k0_off3_eq c))) $$ [HS]
  · isplitr; · iexact HR
    iexact HS
  iintro HS
  iapply (send_step m K c _ 10 (by decide) (k0_dev26_eq c) (k0_off4_eq c) (k0_off5_eq c (10 : Fin 15)) _ _ (send_sem _ (by decide) rfl)
      (recv_sem _ (dev_lt c) (k0_off3_eq c))) $$ [HS]
  · isplitr; · iexact HR
    iexact HS
  iintro HS
  iapply (send_step m K c _ 11 (by decide) (k0_dev27_eq c) (k0_off4_eq c) (k0_off5_eq c (11 : Fin 15)) _ _ (send_sem _ (by decide) rfl)
      (recv_sem _ (dev_lt c) (k0_off3_eq c))) $$ [HS]
  · isplitr; · iexact HR
    iexact HS
  iintro HS
  iapply (wpc_ret c)
  iapply Hk; iexact HS

/-- Sends 13 to 14. -/
theorem part9_spec (v2 w : BitVec 32) (Q : PUnit → sProp 𝕄) :
    iprop(records m K ∗ SendSt m c 12 ∗ (SendSt m c 14 -∗ Q ⟨⟩))
      ⊢ wpc c (atBufs (k0_part9 (F := F)) c v2 w) Q := by
  simp only [k0_part9_eq_skeleton]; unfold k0_part9_skel
  simp only [semSignalWord, semWaitWord, Prog.lift, Prog.bind_op, Prog.bind_ret, Prog.pure_eq_ret, wp_deviceId]
  iintro ⟨#HR, HS, Hk⟩
  iapply (send_step m K c _ 12 (by decide) (k0_dev28_eq c) (k0_off4_eq c) (k0_off5_eq c (12 : Fin 15)) _ _ (send_sem _ (by decide) rfl)
      (recv_sem _ (dev_lt c) (k0_off3_eq c))) $$ [HS]
  · isplitr; · iexact HR
    iexact HS
  iintro HS
  iapply (send_step m K c _ 13 (by decide) (k0_dev29_eq c) (k0_off4_eq c) (k0_off5_eq c (13 : Fin 15)) _ _ (send_sem _ (by decide) rfl)
      (recv_sem _ (dev_lt c) (k0_off3_eq c))) $$ [HS]
  · isplitr; · iexact HR
    iexact HS
  iintro HS
  iapply (wpc_ret c)
  iapply Hk; iexact HS

end Cert.Exchange

end
-- ==== Proof.Between.lean ====
/-
# From the signals to the sends, and from the sends to the waits

The stretch between the two: the device keeps its own block, waits until every other device is ready for its sends, and
from then on holds what the sends take.

-/
module

public import proofs.«01_k».proof.Proof.Sends

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## A device and the fifteen others -/

theorem bigSep_image {I J : Type} [DecidableEq I] [DecidableEq J] (g : I → J) (Φ : J → sProp 𝕄) (S : Finset I) (hg : Set.InjOn g S) :
    bigSep (S.image g) Φ = bigSep S fun i => Φ (g i) := by
  induction S using Finset.induction_on with
  | empty => rw [Finset.image_empty, bigSep_empty, bigSep_empty]
  | insert a S ha ih =>
    have hn : g a ∉ S.image g := fun h => by
      obtain ⟨b, hb, e⟩ := Finset.mem_image.mp h
      exact ha (hg (by simp) (by simp [hb]) e.symm ▸ hb)
    rw [Finset.image_insert, bigSep_insert hn, bigSep_insert ha, ih (hg.mono (by simp))]

/-- The numbers below sixteen are the device's own and those of the fifteen after it. -/
theorem around (Φ : ℕ → sProp 𝕄) :
    bigSep (Finset.range 16) Φ = iprop(Φ c.val ∗ bigSep (Finset.range 15) fun j => Φ (tgt c j).val) := by
  have hc := dev_lt c
  have himg : (Finset.range 16).erase c.val = (Finset.range 15).image fun j => (tgt c j).val := by
    ext s
    simp only [Finset.mem_erase, Finset.mem_range, Finset.mem_image, tgt_val]
    constructor
    · rintro ⟨h, h'⟩; exact ⟨(s + 15 - c.val) % 16, by omega, by omega⟩
    · rintro ⟨j, hj, rfl⟩; constructor <;> omega
  rw [at_one (Finset.mem_range.mpr hc), himg, bigSep_image]
  intro a ha b hb h
  have h : (tgt c a).val = (tgt c b).val := h
  simp only [Finset.coe_range, Set.mem_Iio] at ha hb
  simp only [tgt_val] at h; omega

/-! ## Where the sends begin and end -/

/-- The tokens the device's sends pay with. -/
def SendToks : sProp 𝕄 :=
  bigSep (Finset.range 15) fun j => iprop(dutyTok ER (dCell c j) 0 0 ∗ dutyTok ER (dCell (tgt c j) (15 + c.val)) 0 0)

theorem sends_begin :
    iprop(owesE c (Osend c 0) ∗ SendToks (F := F) c ∗ ((c : Thread nD τ).loc cc0_scratch0 ↦{fullShare} xF m c) ∗ bigSep (Finset.range 15) (barPay (F := F) c))
      ⊢ iprop(SendSt m c 0 ∗ xPts c c.val (xF m c)) := by
  have hP : bigSep (Finset.range 15) (SendPre m c)
      = iprop((bigSep (Finset.range 15) fun j => dutyTok ER (dCell c j) 0 0) ∗ (bigSep (Finset.range 15) fun j => dutyTok ER (dCell (tgt c j) (15 + c.val)) 0 0)
          ∗ (bigSep (Finset.range 15) fun j => xPts c (tgt c j).val (xF m c)) ∗ bigSep (Finset.range 15) (barPay (F := F) c)) := by
    unfold SendPre; rw [bigSep_sep', bigSep_sep', bigSep_sep']
  unfold SendSt SendToks
  rw [x_parts, around c, left_all, done_none, hP, bigSep_sep']
  iintro ⟨HO, Ht, ⟨Hx, Hxs⟩, Hb⟩
  isplitr [Hx]
  · isplitl [HO]; · iexact HO
    isplitl [Ht Hxs Hb]
    · icases Ht with ⟨H1, H2⟩
      isplitl [H1]; · iexact H1
      isplitl [H2]; · iexact H2
      isplitl [Hxs] <;> iassumption
    iempintro
  iexact Hx

/-- What the device's waits take besides what its transfers leave: the semaphores at their first round, and the credit for
    what the others send. -/
def WaitToks : sProp 𝕄 :=
  iprop((bigSep (Finset.range 16) fun s => atPos ER (dCell c (15 + s)) 0 ∅ 0)
    ∗ (bigSep ((Finset.range 16).erase c.val) fun s => cred (tallyAt (dCell c (15 + s)) () Nb))
    ∗ (bigSep (Finset.range 4) fun g => atPos ER (dCell c (31 + g)) 0 ∅ 0)
    ∗ (bigSep (Finset.range 15) fun j => atPos ER (dCell c j) 0 ∅ 0))

theorem waits_begin :
    iprop(SendSt m c 15 ∗ WSt m c 4 ∗ slotPts c c.val (comF m c) ∗ WaitToks (F := F) c) ⊢ WaitSt m c 0 0 0 := by
  have hc := dev_lt c
  unfold SendSt WSt WaitToks WaitSt
  rw [Osend_last, left_none, left_none, left_all, left_all, left_all, done_none, done_none, done_none]
  have hR : bigSep (Finset.range 16) (RPre m c)
      = iprop((bigSep (Finset.range 16) fun s => atPos ER (dCell c (15 + s)) 0 ∅ 0) ∗ slotPts c c.val (comF m c)
          ∗ (bigSep ((Finset.range 16).erase c.val) fun s => cred (tallyAt (dCell c (15 + s)) () Nb))) := by
    unfold RPre
    rw [bigSep_sep', at_one (S := Finset.range 16) (Φ := fun s => if s = c.val then slotPts c s (comF m c) else cred (tallyAt (dCell c (15 + s)) () Nb))
      (Finset.mem_range.mpr hc), if_pos rfl]
    congr 2
    exact bigSep_congr fun s hs => if_neg (Finset.ne_of_mem_erase hs)
  rw [hR]
  unfold CPre SPre
  rw [bigSep_sep', bigSep_sep']
  iintro ⟨⟨HO, -, Hcs⟩, ⟨-, Hcw⟩, Hp, Ha, Hcr, Haw, Has⟩
  isplitl [HO]; · iexact HO
  isplitl [Hp Ha Hcr]
  · isplitl [Hp Ha Hcr]
    · isplitl [Ha]; · iexact Ha
      isplitl [Hp] <;> iassumption
    iempintro
  isplitl [Hcw Haw]
  · isplitl [Hcw Haw]
    · isplitl [Hcw] <;> iassumption
    iempintro
  isplitl [Hcs Has]
  · isplitl [Hcs] <;> iassumption
  iempintro

/-! ## The stretch between -/

/-- The right operand's last two copies, the left operand waited for, the device's own block put into its slab, the
    barrier waited for, and the first send. -/
theorem part4_spec (v2 : BitVec 32) (Q : BitVec 32 → sProp 𝕄) :
    iprop(records m K ∗ SigSt c 15 ∗ WSt m c 2 ∗ cred (tallyAt (dCell c 35) () Nx) ∗ atPos ER (dCell c 35) 0 ∅ 0
        ∗ (∃ f, slotPts (F := F) c c.val f) ∗ cred (tallyAt (bCell c) () 15) ∗ atPos ER (bCell c) 0 ∅ 0 ∗ SendToks (F := F) c
        ∗ (∀ u, (SendSt m c 1 ∗ WSt m c 4 ∗ ((c : Thread nD τ).loc main_arg0 ↦{fullShare} xF m c) ∗ xPts c c.val (xF m c)
            ∗ slotPts c c.val (comF m c) ∗ semVal (dCell c 35) 0 ∗ semVal (bCell c) 0) -∗ Q u))
      ⊢ wpc c (atBufs (k0_part4 (F := F)) c v2 barA) Q := by
  have hc := dev_lt c
  simp only [k0_part4_eq_skeleton]; unfold k0_part4_skel
  simp only [semSignalWord, semWaitWord, Prog.lift, Prog.bind_op, Prog.bind_ret, Prog.pure_eq_ret, wp_deviceId]
  unfold SigSt
  rw [Osig_last]
  iintro ⟨#HR, ⟨HO, -, -⟩, HW, Hcx, Hax, ⟨%f, Hp⟩, Hcb, Hab, Ht, Hk⟩
  iapply (w_start m K c 2 (by decide) rfl _ (w_sem _ (by decide) rfl)) $$ [HW]
  · isplitr; · iexact HR
    iexact HW
  iintro HW
  iapply (w_start m K c 3 (by decide) rfl _ (w_sem _ (by decide) rfl)) $$ [HW]
  · isplitr; · iexact HR
    iexact HW
  iintro HW
  iapply (wait_dma m K c 35 (by decide) (by omega) Nx rfl _ x_sem rfl (Osend c 0) (mayWait_at m K c 0 _ (by decide))) $$ [HO Hcx Hax]
  · isplitr; · iexact HR
    isplitl [HO]; · iexact HO
    isplitl [Hcx] <;> iassumption
  rw [dmaPay_x]; unfold xPay
  iintro ⟨HO, ⟨Hx, Ha⟩, Hzx⟩
  iapply (wp_load 𝒱₀ (c : Thread nD τ) none Set.univ (m := xM) (f := xF m c) (Finset.subset_univ _)) $$ Hx
  iintro Hx
  unfold slotPts
  iapply (wp_load_rect 𝒱₀ (c : Thread nD τ) none Set.univ (m := cM) (r := cRect (k0_off2 c) (k0_off2_inb c)) (f := f) (le_of_eq (cAccess_set _ (k0_off2_eq c)))) $$ Hp
  iintro Hp
  iapply (wp_store 𝒱₀ (c : Thread nD τ) none Set.univ (m := cM) (r := cRect (k0_off2 c) (k0_off2_inb c)) (Mk := Finset.univ) (f := f)
    (le_of_eq (cAccess_set _ (k0_off2_eq c)))) $$ Hp
  iintro Hp
  ihave Hp := (Entails.of_eq (pointsTo_congr (own_slot m c (k0_off1_inb c) (k0_off2_inb c) (k0_off1_eq c) (k0_off2_eq c) f))) $$ Hp
  iapply (bar_wait m K c) $$ [HO Hcb Hab]
  · isplitr; · iexact HR
    isplitl [HO]; · iexact HO
    isplitl [Hcb] <;> iassumption
  iintro ⟨HO, Hb, Hzb⟩
  ihave HS := (sends_begin m c) $$ [HO Ht Hx Hb]
  · isplitl [HO]; · iexact HO
    isplitl [Ht]; · iexact Ht
    isplitl [Hx] <;> iassumption
  icases HS with ⟨HS, Hx⟩
  iapply (send_step m K c _ 0 (by decide) (k0_dev16_eq c) (k0_off4_eq c) (k0_off5_eq c (0 : Fin 15)) _ _ (send_sem _ (by decide) rfl)
      (recv_sem _ (dev_lt c) (k0_off3_eq c))) $$ [HS]
  · isplitr; · iexact HR
    iexact HS
  iintro HS
  iapply (wpc_ret c)
  iapply Hk
  isplitl [HS]; · iexact HS
  isplitl [HW]; · iexact HW
  isplitl [Ha]; · iexact Ha
  isplitl [Hx]; · iexact Hx
  isplitl [Hp]; · iexact Hp
  isplitl [Hzx] <;> iassumption

end Cert.Exchange

end
-- ==== Proof.Waits.lean ====
/-
# The second half of the body: the waits, the products and the result's copy

The device waits for four slabs at a time and for the chunk of the right operand they meet, multiplies, and adds the
product to the accumulator; then it copies the accumulator out and waits for its own sends.

-/
module

public import proofs.«01_k».proof.Proof.Between

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

set_option maxHeartbeats 2000000

/-- The last send; the first four slabs and the first chunk waited for, and the slabs loaded. -/
theorem part10_spec (Q : FVec F S64x256 .bf16 → sProp 𝕄) :
    iprop(records m K ∗ SendSt m c 14 ∗ WSt m c 4 ∗ slotPts c c.val (comF m c) ∗ WaitToks (F := F) c
        ∗ (WaitSt m c 4 1 0 -∗ Q (k0_pay2 (slotVal m c 0) (slotVal m c 1) (slotVal m c 2) (slotVal m c 3))))
      ⊢ wpc c (atBufs (k0_part10 (F := F)) c (word c)) Q := by
  simp only [k0_part10_eq_skeleton]; unfold k0_part10_skel
  simp only [semSignalWord, semWaitWord, Prog.lift, Prog.bind_op, Prog.bind_ret, Prog.pure_eq_ret, wp_deviceId]
  iintro ⟨#HR, HS, HW, Hp, Ht, Hk⟩
  iapply (send_step m K c _ 14 (by decide) (k0_dev30_eq c) (k0_off4_eq c) (k0_off5_eq c (14 : Fin 15)) _ _ (send_sem _ (by decide) rfl)
      (recv_sem _ (dev_lt c) (k0_off3_eq c))) $$ [HS]
  · isplitr; · iexact HR
    iexact HS
  iintro HS
  ihave HS := (waits_begin m c) $$ [HS HW Hp Ht]
  · isplitl [HS]; · iexact HS
    isplitl [HW]; · iexact HW
    isplitl [Hp] <;> iassumption
  iapply (recv_step m K c 0 0 0 (by decide) (cond_iff c (by decide)) _ (recv_sem _ (by decide) rfl)) $$ [HS]
  · isplitr; · iexact HR
    iexact HS
  iintro HS
  iapply (recv_step m K c 1 0 0 (by decide) (cond_iff c (by decide)) _ (recv_sem _ (by decide) rfl)) $$ [HS]
  · isplitr; · iexact HR
    iexact HS
  iintro HS
  iapply (recv_step m K c 2 0 0 (by decide) (cond_iff c (by decide)) _ (recv_sem _ (by decide) rfl)) $$ [HS]
  · isplitr; · iexact HR
    iexact HS
  iintro HS
  iapply (recv_step m K c 3 0 0 (by decide) (cond_iff c (by decide)) _ (recv_sem _ (by decide) rfl)) $$ [HS]
  · isplitr; · iexact HR
    iexact HS
  iintro HS
  iapply (w_wait m K c 4 0 0 (by decide) _ (w_sem _ (by decide) rfl)) $$ [HS]
  · isplitr; · iexact HR
    iexact HS
  iintro HS
  iapply (load_slot m c 4 1 0 0 (by decide) (by decide) rfl) $$ HS
  iintro HS
  iapply (load_slot m c 4 1 0 1 (by decide) (by decide) rfl) $$ HS
  iintro HS
  iapply (load_slot m c 4 1 0 2 (by decide) (by decide) rfl) $$ HS
  iintro HS
  iapply (load_slot m c 4 1 0 3 (by decide) (by decide) rfl) $$ HS
  iintro HS
  iapply (wpc_ret c)
  iapply Hk; iexact HS

/-- The first product stored; slabs 4 to 7 and chunk 1 waited for. -/
theorem part11_spec (v : FVec F S64x256 .bf16) (hv : v = k0_pay2 (slotVal m c 0) (slotVal m c 1) (slotVal m c 2) (slotVal m c 3))
    (Q : (Σ' (v314 : FVec F S64x64 .bf16) (v316 : FVec F S64x64 .bf16), FVec F S64x64 .bf16) → sProp 𝕄) :
    iprop(records m K ∗ WaitSt m c 4 1 0 ∗ (∃ f, oPts (F := F) c f)
        ∗ ((WaitSt m c 8 2 0 ∗ oPts c (acc0 m c)) -∗ Q ⟨k0_pay4 (slotVal m c 4), k0_pay5 (slotVal m c 5), k0_pay6 (slotVal m c 6)⟩))
      ⊢ wpc c (atBufs (k0_part11 (F := F)) (word c) v) Q := by
  subst hv
  simp only [k0_part11_eq_skeleton]; unfold k0_part11_skel
  simp only [semSignalWord, semWaitWord, Prog.lift, Prog.bind_op, Prog.bind_ret, Prog.pure_eq_ret, wp_deviceId]
  iintro ⟨#HR, HS, ⟨%f, Ho⟩, Hk⟩
  iapply (load_w m c 4 1 0 0 (by decide) (by decide) rfl) $$ HS
  iintro HS
  iapply (load_o c _) $$ Ho
  iintro Ho
  iapply (store_o c _ (acc0 m c)) $$ Ho
  iintro Ho
  iapply (recv_step m K c 4 1 0 (by decide) (cond_iff c (by decide)) _ (recv_sem _ (by decide) rfl)) $$ [HS]
  · isplitr; · iexact HR
    iexact HS
  iintro HS
  iapply (recv_step m K c 5 1 0 (by decide) (cond_iff c (by decide)) _ (recv_sem _ (by decide) rfl)) $$ [HS]
  · isplitr; · iexact HR
    iexact HS
  iintro HS
  iapply (recv_step m K c 6 1 0 (by decide) (cond_iff c (by decide)) _ (recv_sem _ (by decide) rfl)) $$ [HS]
  · isplitr; · iexact HR
    iexact HS
  iintro HS
  iapply (recv_step m K c 7 1 0 (by decide) (cond_iff c (by decide)) _ (recv_sem _ (by decide) rfl)) $$ [HS]
  · isplitr; · iexact HR
    iexact HS
  iintro HS
  iapply (w_wait m K c 8 1 0 (by decide) _ (w_sem _ (by decide) rfl)) $$ [HS]
  · isplitr; · iexact HR
    iexact HS
  iintro HS
  iapply (load_slot m c 8 2 0 4 (by decide) (by decide) rfl) $$ HS
  iintro HS
  iapply (load_slot m c 8 2 0 5 (by decide) (by decide) rfl) $$ HS
  iintro HS
  iapply (load_slot m c 8 2 0 6 (by decide) (by decide) rfl) $$ HS
  iintro HS
  iapply (wpc_ret c)
  iapply Hk
  isplitl [HS] <;> iassumption

/-- The second product added; slabs 8 to 11 and chunk 2 waited for. -/
theorem part12_spec (Q : FVec F S64x64 .bf16 → sProp 𝕄) :
    iprop(records m K ∗ WaitSt m c 8 2 0 ∗ oPts c (acc0 m c)
        ∗ ((WaitSt m c 12 3 0 ∗ oPts c (acc1 m c)) -∗ Q (k0_pay8 (slotVal m c 8))))
      ⊢ wpc c (atBufs (k0_part12 (F := F)) (word c) (k0_pay4 (slotVal m c 4)) (k0_pay5 (slotVal m c 5)) (k0_pay6 (slotVal m c 6))) Q := by
  simp only [k0_part12_eq_skeleton]; unfold k0_part12_skel
  simp only [semSignalWord, semWaitWord, Prog.lift, Prog.bind_op, Prog.bind_ret, Prog.pure_eq_ret, wp_deviceId]
  iintro ⟨#HR, HS, Ho, Hk⟩
  iapply (load_slot m c 8 2 0 7 (by decide) (by decide) rfl) $$ HS
  iintro HS
  iapply (load_w m c 8 2 0 1 (by decide) (by decide) rfl) $$ HS
  iintro HS
  iapply (load_o c _) $$ Ho
  iintro Ho
  iapply (load_o c _) $$ Ho
  iintro Ho
  iapply (store_o c _ (acc1 m c)) $$ Ho
  iintro Ho
  iapply (recv_step m K c 8 2 0 (by decide) (cond_iff c (by decide)) _ (recv_sem _ (by decide) rfl)) $$ [HS]
  · isplitr; · iexact HR
    iexact HS
  iintro HS
  iapply (recv_step m K c 9 2 0 (by decide) (cond_iff c (by decide)) _ (recv_sem _ (by decide) rfl)) $$ [HS]
  · isplitr; · iexact HR
    iexact HS
  iintro HS
  iapply (recv_step m K c 10 2 0 (by decide) (cond_iff c (by decide)) _ (recv_sem _ (by decide) rfl)) $$ [HS]
  · isplitr; · iexact HR
    iexact HS
  iintro HS
  iapply (recv_step m K c 11 2 0 (by decide) (cond_iff c (by decide)) _ (recv_sem _ (by decide) rfl)) $$ [HS]
  · isplitr; · iexact HR
    iexact HS
  iintro HS
  iapply (w_wait m K c 12 2 0 (by decide) _ (w_sem _ (by decide) rfl)) $$ [HS]
  · isplitr; · iexact HR
    iexact HS
  iintro HS
  iapply (load_slot m c 12 3 0 8 (by decide) (by decide) rfl) $$ HS
  iintro HS
  iapply (wpc_ret c)
  iapply Hk
  isplitl [HS] <;> iassumption

/-- The third product added; the last four slabs waited for. -/
theorem part13_spec (Q : PUnit → sProp 𝕄) :
    iprop(records m K ∗ WaitSt m c 12 3 0 ∗ oPts c (acc1 m c)
        ∗ ((WaitSt m c 16 3 0 ∗ oPts c (acc2 m c)) -∗ Q ⟨⟩))
      ⊢ wpc c (atBufs (k0_part13 (F := F)) (word c) (k0_pay8 (slotVal m c 8))) Q := by
  simp only [k0_part13_eq_skeleton]; unfold k0_part13_skel
  simp only [semSignalWord, semWaitWord, Prog.lift, Prog.bind_op, Prog.bind_ret, Prog.pure_eq_ret, wp_deviceId]
  iintro ⟨#HR, HS, Ho, Hk⟩
  iapply (load_slot m c 12 3 0 9 (by decide) (by decide) rfl) $$ HS
  iintro HS
  iapply (load_slot m c 12 3 0 10 (by decide) (by decide) rfl) $$ HS
  iintro HS
  iapply (load_slot m c 12 3 0 11 (by decide) (by decide) rfl) $$ HS
  iintro HS
  iapply (load_w m c 12 3 0 2 (by decide) (by decide) rfl) $$ HS
  iintro HS
  iapply (load_o c _) $$ Ho
  iintro Ho
  iapply (load_o c _) $$ Ho
  iintro Ho
  iapply (store_o c _ (acc2 m c)) $$ Ho
  iintro Ho
  iapply (recv_step m K c 12 3 0 (by decide) (cond_iff c (by decide)) _ (recv_sem _ (by decide) rfl)) $$ [HS]
  · isplitr; · iexact HR
    iexact HS
  iintro HS
  iapply (recv_step m K c 13 3 0 (by decide) (cond_iff c (by decide)) _ (recv_sem _ (by decide) rfl)) $$ [HS]
  · isplitr; · iexact HR
    iexact HS
  iintro HS
  iapply (recv_step m K c 14 3 0 (by decide) (cond_iff c (by decide)) _ (recv_sem _ (by decide) rfl)) $$ [HS]
  · isplitr; · iexact HR
    iexact HS
  iintro HS
  iapply (recv_step m K c 15 3 0 (by decide) (cond_iff c (by decide)) _ (recv_sem _ (by decide) rfl)) $$ [HS]
  · isplitr; · iexact HR
    iexact HS
  iintro HS
  iapply (wpc_ret c)
  iapply Hk
  isplitl [HS] <;> iassumption

/-- The result's copy starts. -/
theorem o_start (sem : DmaSem sig) (hs : sem = dmaS 36) {hsrc : oM.view.WordExact} {hdst : oaM.view.WordExact}
    {hsem : (DmaTarget.here oaM : DmaTarget nD τ sig .tc .hbm S64x1024 .f32).Typed .vmem (.dma sem)} {α : Type} {Q : α → sProp 𝕄}
    {k : PUnit → Prog (TpuEff nD τ sig (Elt F) Λ₀ .tc) α} :
    iprop(records m K ∗ dutyTok ER (dCell c 36) 0 0 ∗ oPts c (outF m c)
        ∗ (∃ f : Buf (Elt F) ((c : Thread nD τ).loc main_v1), (c : Thread nD τ).loc main_v1 ↦{fullShare} f))
      ⊢ iprop((cred (tallyAt (dCell c 36) () No) -∗ wpc c (k ⟨⟩) Q)
          -∗ wpc c (.op (.enqueueDma oM (.here oaM) (.dma sem) hsrc hdst hsem) k) Q) := by
  subst hs
  unfold oPts
  iintro ⟨#HR, Ht, Ho, ⟨%f, Hv⟩⟩ Hk
  have h1 : oM.view.set = Finset.univ := View.set_whole _
  have h2 : oaM.view.set = Finset.univ := View.set_whole _
  iapply (Rounds.wp_copy_pointsTo 𝒱₀ ER (Rd m) (c : Thread nD τ) none (src := oM) (dst := oaM) (q := fullShare) (fs := outF m c) (fd := f)
      (κ := K (c, .dma (dmaS 36))) (r := 0) (d := 0)
      (by rw [duties_dma m c (by decide) (by have := dev_lt c; omega)]; exact Finset.mem_singleton_self _) () No rfl
      (amount_dma m c (by decide) 0)
      (by rw [payload_dma m c (by decide), dmaPay_o, oCopied, h1, h2]; exact BI.Entails.refl _)) $$ [Ht Ho Hv]
  · rw [h1, h2]
    isplitr; · iapply (inv_at m K c (.dma (dmaS 36))); iexact HR
    isplitl [Ho]; · iexact Ho
    isplitl [Hv]; · iexact Hv
    isplitl [Ht]; · iexact Ht
    iapply (reached_at m K c (.dma (dmaS 36))); iexact HR
  iexact Hk

/-- The last product added, the result's copy started, and the first send waited for. -/
theorem part14_spec (Q : PUnit → sProp 𝕄) :
    iprop(records m K ∗ WaitSt m c 16 3 0 ∗ oPts c (acc2 m c) ∗ dutyTok ER (dCell c 36) 0 0
        ∗ (∃ f : Buf (Elt F) ((c : Thread nD τ).loc main_v1), (c : Thread nD τ).loc main_v1 ↦{fullShare} f)
        ∗ ((WaitSt m c 16 4 1 ∗ cred (tallyAt (dCell c 36) () No)) -∗ Q ⟨⟩))
      ⊢ wpc c (atBufs (k0_part14 (F := F)) c) Q := by
  simp only [k0_part14_eq_skeleton]; unfold k0_part14_skel
  simp only [semSignalWord, semWaitWord, Prog.lift, Prog.bind_op, Prog.bind_ret, Prog.pure_eq_ret, wp_deviceId]
  iintro ⟨#HR, HS, Ho, Ht, Hv, Hk⟩
  iapply (w_wait m K c 16 3 0 (by decide) _ (w_sem _ (by decide) rfl)) $$ [HS]
  · isplitr; · iexact HR
    iexact HS
  iintro HS
  iapply (load_slot m c 16 4 0 12 (by decide) (by decide) rfl) $$ HS
  iintro HS
  iapply (load_slot m c 16 4 0 13 (by decide) (by decide) rfl) $$ HS
  iintro HS
  iapply (load_slot m c 16 4 0 14 (by decide) (by decide) rfl) $$ HS
  iintro HS
  iapply (load_slot m c 16 4 0 15 (by decide) (by decide) rfl) $$ HS
  iintro HS
  iapply (load_w m c 16 4 0 3 (by decide) (by decide) rfl) $$ HS
  iintro HS
  iapply (load_o c _) $$ Ho
  iintro Ho
  iapply (load_o c _) $$ Ho
  iintro Ho
  iapply (store_o c _ (outF m c)) $$ Ho
  iintro Ho
  iapply (o_start m K c _ o_sem) $$ [Ht Ho Hv]
  · isplitr; · iexact HR
    isplitl [Ht]; · iexact Ht
    isplitl [Ho] <;> iassumption
  iintro Hc
  iapply (send_wait m K c 16 4 0 (by decide) _ (send_sem _ (by decide) rfl)) $$ [HS]
  · isplitr; · iexact HR
    iexact HS
  iintro HS
  iapply (wpc_ret c)
  iapply Hk
  isplitl [HS] <;> iassumption

/-- Sends 2 to 7 waited for. -/
theorem part15_spec (Q : PUnit → sProp 𝕄) :
    iprop(records m K ∗ WaitSt m c 16 4 1 ∗ (WaitSt m c 16 4 7 -∗ Q ⟨⟩))
      ⊢ wpc c (atBufs (k0_part15 (F := F)) c) Q := by
  simp only [k0_part15_eq_skeleton]; unfold k0_part15_skel
  simp only [semSignalWord, semWaitWord, Prog.lift, Prog.bind_op, Prog.bind_ret, Prog.pure_eq_ret, wp_deviceId]
  iintro ⟨#HR, HS, Hk⟩
  iapply (send_wait m K c 16 4 1 (by decide) _ (send_sem _ (by decide) rfl)) $$ [HS]
  · isplitr; · iexact HR
    iexact HS
  iintro HS
  iapply (send_wait m K c 16 4 2 (by decide) _ (send_sem _ (by decide) rfl)) $$ [HS]
  · isplitr; · iexact HR
    iexact HS
  iintro HS
  iapply (send_wait m K c 16 4 3 (by decide) _ (send_sem _ (by decide) rfl)) $$ [HS]
  · isplitr; · iexact HR
    iexact HS
  iintro HS
  iapply (send_wait m K c 16 4 4 (by decide) _ (send_sem _ (by decide) rfl)) $$ [HS]
  · isplitr; · iexact HR
    iexact HS
  iintro HS
  iapply (send_wait m K c 16 4 5 (by decide) _ (send_sem _ (by decide) rfl)) $$ [HS]
  · isplitr; · iexact HR
    iexact HS
  iintro HS
  iapply (send_wait m K c 16 4 6 (by decide) _ (send_sem _ (by decide) rfl)) $$ [HS]
  · isplitr; · iexact HR
    iexact HS
  iintro HS
  iapply (wpc_ret c)
  iapply Hk; iexact HS

/-- Sends 8 to 12 waited for. -/
theorem part16_spec (Q : PUnit → sProp 𝕄) :
    iprop(records m K ∗ WaitSt m c 16 4 7 ∗ (WaitSt m c 16 4 12 -∗ Q ⟨⟩))
      ⊢ wpc c (atBufs (k0_part16 (F := F)) c) Q := by
  simp only [k0_part16_eq_skeleton]; unfold k0_part16_skel
  simp only [semSignalWord, semWaitWord, Prog.lift, Prog.bind_op, Prog.bind_ret, Prog.pure_eq_ret, wp_deviceId]
  iintro ⟨#HR, HS, Hk⟩
  iapply (send_wait m K c 16 4 7 (by decide) _ (send_sem _ (by decide) rfl)) $$ [HS]
  · isplitr; · iexact HR
    iexact HS
  iintro HS
  iapply (send_wait m K c 16 4 8 (by decide) _ (send_sem _ (by decide) rfl)) $$ [HS]
  · isplitr; · iexact HR
    iexact HS
  iintro HS
  iapply (send_wait m K c 16 4 9 (by decide) _ (send_sem _ (by decide) rfl)) $$ [HS]
  · isplitr; · iexact HR
    iexact HS
  iintro HS
  iapply (send_wait m K c 16 4 10 (by decide) _ (send_sem _ (by decide) rfl)) $$ [HS]
  · isplitr; · iexact HR
    iexact HS
  iintro HS
  iapply (send_wait m K c 16 4 11 (by decide) _ (send_sem _ (by decide) rfl)) $$ [HS]
  · isplitr; · iexact HR
    iexact HS
  iintro HS
  iapply (wpc_ret c)
  iapply Hk; iexact HS

end Cert.Exchange

end
-- ==== Proof.Body.lean ====
/-
# The whole body

The stretches joined: from what a device starts with to what it ends with.

-/
module

public import proofs.«01_k».proof.Proof.Waits

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-- A program's first stretch, then the rest. -/
theorem wpc_bind {α β : Type} (p : Prog (TpuEff nD τ sig (Elt F) Λ₀ .tc) α) (k : α → Prog (TpuEff nD τ sig (Elt F) Λ₀ .tc) β) (Q : β → sProp 𝕄) :
    wpc c p (fun a => wpc c (k a) Q) ⊢ wpc c (p >>= k) Q := by
  unfold wpc; rw [wp_bind]

/-- What the body starts with besides the records. -/
def BodyIn : sProp 𝕄 :=
  iprop(SigSt c 0 ∗ WSt m c 0 ∗ dutyTok ER (dCell c 35) 0 0 ∗ ((c : Thread nD τ).loc main_arg0 ↦{fullShare} xF m c)
    ∗ (∃ f : Buf (Elt F) ((c : Thread nD τ).loc cc0_scratch0), (c : Thread nD τ).loc cc0_scratch0 ↦{fullShare} f)
    ∗ atPos ER (dCell c 35) 0 ∅ 0 ∗ (∃ f, slotPts (F := F) c c.val f) ∗ cred (tallyAt (bCell c) () 15) ∗ atPos ER (bCell c) 0 ∅ 0
    ∗ SendToks (F := F) c ∗ WaitToks (F := F) c ∗ (∃ f, oPts (F := F) c f) ∗ dutyTok ER (dCell c 36) 0 0
    ∗ (∃ f : Buf (Elt F) ((c : Thread nD τ).loc main_v1), (c : Thread nD τ).loc main_v1 ↦{fullShare} f)
    ∗ atPos ER (dCell c 36) 0 ∅ 0)

/-- What it ends with. -/
def BodyOut : sProp 𝕄 :=
  iprop(owesE c 0 ∗ bigSep (Finset.range 16) (RDone m c) ∗ bigSep (Finset.range 4) (CDone m c) ∗ bigSep (Finset.range 15) (SDone m c)
    ∗ ((c : Thread nD τ).loc main_arg0 ↦{fullShare} xF m c) ∗ xPts c c.val (xF m c) ∗ semVal (dCell c 35) 0 ∗ semVal (bCell c) 0
    ∗ oPay m c ∗ semVal (dCell c 36) 0)

set_option maxHeartbeats 2000000

/-- The body runs from the one to the other. -/
theorem body_spec (Q : PUnit → sProp 𝕄) :
    iprop(records m K ∗ BodyIn m c ∗ (BodyOut m c -∗ Q ⟨⟩)) ⊢ wpc c (atBufs (cc0_body (F := F))) Q := by
  have hc := dev_lt c
  simp only [cc0_body_eq_skeleton]; unfold cc0_body_skel
  unfold BodyIn
  iintro ⟨#HR, ⟨HS, HW, Ht35, Ha, Hx, Ha35, Hown, Hcb, Hab, Hst, Hwt, Ho, Ht36, Hv, Ha36⟩, Hk⟩
  iapply (wpc_bind c)
  iapply (part1_spec m K c _)
  isplitr; · iexact HR
  isplitl [HS]; · iexact HS
  iintro %u %v HS
  iapply (wpc_bind c)
  iapply (part2_spec m K c _ _ _ _)
  isplitr; · iexact HR
  isplitl [HS]; · iexact HS
  iintro %u2 %v2 HS
  iapply (wpc_bind c)
  iapply (part3_spec m K c _ _ _ _)
  isplitr; · iexact HR
  isplitl [HS]; · iexact HS
  isplitl [HW]; · iexact HW
  isplitl [Ht35]; · iexact Ht35
  isplitl [Ha]; · iexact Ha
  isplitl [Hx]; · iexact Hx
  iintro ⟨HS, HW, Hc35⟩
  iapply (wpc_bind c)
  iapply (part4_spec m K c _ _)
  isplitr; · iexact HR
  isplitl [HS]; · iexact HS
  isplitl [HW]; · iexact HW
  isplitl [Hc35]; · iexact Hc35
  isplitl [Ha35]; · iexact Ha35
  isplitl [Hown]; · iexact Hown
  isplitl [Hcb]; · iexact Hcb
  isplitl [Hab]; · iexact Hab
  isplitl [Hst]; · iexact Hst
  iintro %u4 ⟨HS, HW, Ha, Hx, Hown, Hz35, Hzb⟩
  iapply (wpc_bind c)
  iapply (part5_spec m K c _ _ _)
  isplitr; · iexact HR
  isplitl [HS]; · iexact HS
  iintro HS
  iapply (wpc_bind c)
  iapply (part6_spec m K c _ _)
  isplitr; · iexact HR
  isplitl [HS]; · iexact HS
  iintro HS
  iapply (wpc_bind c)
  iapply (part7_spec m K c _ _)
  isplitr; · iexact HR
  isplitl [HS]; · iexact HS
  iintro %u7 %v7 HS
  iapply (wpc_bind c)
  iapply (part8_spec m K c _ _ _ _)
  isplitr; · iexact HR
  isplitl [HS]; · iexact HS
  iintro %u8 HS
  iapply (wpc_bind c)
  iapply (part9_spec m K c _ _ _)
  isplitr; · iexact HR
  isplitl [HS]; · iexact HS
  iintro HS
  iapply (wpc_bind c)
  iapply (part10_spec m K c _)
  isplitr; · iexact HR
  isplitl [HS]; · iexact HS
  isplitl [HW]; · iexact HW
  isplitl [Hown]; · iexact Hown
  isplitl [Hwt]; · iexact Hwt
  iintro HS
  iapply (wpc_bind c)
  iapply (part11_spec m K c _ rfl _)
  isplitr; · iexact HR
  isplitl [HS]; · iexact HS
  isplitl [Ho]; · iexact Ho
  iintro ⟨HS, Ho⟩
  iapply (wpc_bind c)
  iapply (part12_spec m K c _)
  isplitr; · iexact HR
  isplitl [HS]; · iexact HS
  isplitl [Ho]; · iexact Ho
  iintro ⟨HS, Ho⟩
  iapply (wpc_bind c)
  iapply (part13_spec m K c _)
  isplitr; · iexact HR
  isplitl [HS]; · iexact HS
  isplitl [Ho]; · iexact Ho
  iintro ⟨HS, Ho⟩
  iapply (wpc_bind c)
  iapply (part14_spec m K c _)
  isplitr; · iexact HR
  isplitl [HS]; · iexact HS
  isplitl [Ho]; · iexact Ho
  isplitl [Ht36]; · iexact Ht36
  isplitl [Hv]; · iexact Hv
  iintro ⟨HS, Hc36⟩
  iapply (wpc_bind c)
  iapply (part15_spec m K c _)
  isplitr; · iexact HR
  isplitl [HS]; · iexact HS
  iintro HS
  iapply (wpc_bind c)
  iapply (part16_spec m K c _)
  isplitr; · iexact HR
  isplitl [HS]; · iexact HS
  iintro HS
  simp only [Prog.lift, Prog.bind_op, Prog.bind_ret, Prog.pure_eq_ret]
  iapply (send_wait m K c 16 4 12 (by decide) _ (send_sem _ (by decide) rfl)) $$ [HS]
  · isplitr; · iexact HR
    iexact HS
  iintro HS
  iapply (send_wait m K c 16 4 13 (by decide) _ (send_sem _ (by decide) rfl)) $$ [HS]
  · isplitr; · iexact HR
    iexact HS
  iintro HS
  iapply (send_wait m K c 16 4 14 (by decide) _ (send_sem _ (by decide) rfl)) $$ [HS]
  · isplitr; · iexact HR
    iexact HS
  iintro HS
  ihave HS' := (Entails.of_eq (show WaitSt m c 16 4 15 = iprop(owesE c 0
    ∗ (bigSep (Finset.Ico 16 16) (RPre m c) ∗ bigSep (Finset.range 16) (RDone m c))
    ∗ (bigSep (Finset.Ico 4 4) (CPre c) ∗ bigSep (Finset.range 4) (CDone m c))
    ∗ (bigSep (Finset.Ico 15 15) (SPre c) ∗ bigSep (Finset.range 15) (SDone m c))) from rfl)) $$ HS
  icases HS' with ⟨HO, ⟨-, Hr⟩, ⟨-, Hw⟩, -, Hs⟩
  iapply (wait_dma m K c 36 (by omega) (by omega) No rfl _ o_sem rfl 0 (mayWait_none m K c _)) $$ [HO Hc36 Ha36]
  · isplitr; · iexact HR
    isplitl [HO]; · iexact HO
    isplitl [Hc36] <;> iassumption
  rw [dmaPay_o]
  iintro ⟨HO, Hp, Hz36⟩
  iapply (wpc_ret c)
  iapply Hk
  unfold BodyOut
  isplitl [HO]; · iexact HO
  isplitl [Hr]; · iexact Hr
  isplitl [Hw]; · iexact Hw
  isplitl [Hs]; · iexact Hs
  isplitl [Ha]; · iexact Ha
  isplitl [Hx]; · iexact Hx
  isplitl [Hz35]; · iexact Hz35
  isplitl [Hzb]; · iexact Hzb
  isplitl [Hp] <;> iassumption

end Cert.Exchange

end
-- ==== Proof.Deal.lean ====
/-
# Dealing the launch's resources around the ring

A device's semaphores listed; what belongs to a cell but is spent by another device moved there; the credit each
device's cells are launched with.

-/
module

public import proofs.«01_k».proof.Proof.Body

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## A device's semaphores, listed -/

/-- A family over the first `a + b` numbers: the first `a`, and the `b` after them. -/
theorem range_add (a b : ℕ) (Φ : ℕ → sProp 𝕄) :
    bigSep (Finset.range (a + b)) Φ = iprop(bigSep (Finset.range a) Φ ∗ bigSep (Finset.range b) fun i => Φ (a + i)) := by
  have himg : (Finset.range (a + b)) \ Finset.range a = (Finset.range b).image fun i => a + i := by
    ext s
    simp only [Finset.mem_sdiff, Finset.mem_range, Finset.mem_image]
    constructor
    · rintro ⟨h1, h2⟩; exact ⟨s - a, by omega, by omega⟩
    · rintro ⟨i, hi, rfl⟩; omega
  rw [BI.bigSep_sdiff_split (Finset.range_subset_range.mpr (Nat.le_add_right a b)), himg,
    bigSep_image (fun i => a + i) Φ _ (fun x _ y _ h => Nat.add_left_cancel h)]
  rfl

/-- A family over the 37 transfer semaphores, by what they serve. -/
theorem split37 (Φ : ℕ → sProp 𝕄) :
    bigSep (Finset.range 37) Φ = iprop(bigSep (Finset.range 15) Φ ∗ (bigSep (Finset.range 16) fun s => Φ (15 + s))
      ∗ (bigSep (Finset.range 4) fun g => Φ (31 + g)) ∗ Φ 35 ∗ Φ 36) := by
  rw [show (37 : ℕ) = 15 + (16 + (4 + (1 + 1))) from rfl, range_add 15, range_add 16, range_add 4, range_add 1,
    Finset.range_one, bigSep_singleton, bigSep_singleton]
  simp only [← Nat.add_assoc]

theorem bigSep_fin37 (Φ : DmaSem sig → sProp 𝕄) : bigSep (Finset.univ : Finset (DmaSem sig)) Φ = bigSep (Finset.range 37) fun q => Φ (dmaS q) :=
  Ring.bigSep_fin_eq_range 37 Φ _ fun t h => congrArg Φ (Fin.ext (dmaS_val h))

theorem sems_erase : (Finset.univ : Finset (SemLoc sig)).erase (.reg barS) = (Finset.univ : Finset (DmaSem sig)).image fun q => SemLoc.dma q := by
  decide

/-- A family over all of a device's semaphores: the barrier's, and the transfer semaphores'. -/
theorem all_sems (Φ : SemLoc sig → sProp 𝕄) :
    bigSep Finset.univ Φ = iprop(Φ (.reg barS) ∗ bigSep (Finset.range 37) fun q => Φ (.dma (dmaS q))) := by
  rw [bigSep_univ_at _ (SemLoc.reg barS), sems_erase, bigSep_image _ _ _ (fun x _ y _ h => SemLoc.dma.inj h), bigSep_fin37]

/-! ## Around the ring -/

theorem reflect (Φ : ℕ → sProp 𝕄) : (bigSep (Finset.range 15) fun j => Φ (14 - j)) = bigSep (Finset.range 15) Φ := by
  rw [← bigSep_image (fun j => 14 - j) Φ (Finset.range 15) (fun x hx y hy h => by
    have h1 := Finset.mem_range.mp hx; have h2 := Finset.mem_range.mp hy; dsimp only at h; omega)]
  rw [show (Finset.range 15).image (fun j => 14 - j) = Finset.range 15 from by decide]

/-- A family over devices and numbers, either first. -/
theorem swap (n : ℕ) (Φ : Dev nD → ℕ → sProp 𝕄) :
    (bigSep Finset.univ fun c : Dev nD => bigSep (Finset.range n) (Φ c)) = bigSep (Finset.range n) fun j => bigSep Finset.univ fun c : Dev nD => Φ c j := by
  induction n with
  | zero => simp
  | succ n ih => simp only [done_last, bigSep_sep', ih]

/-- What is dealt by the device it reaches is what is dealt by the device it comes from. -/
theorem deal (Ψ : Dev nD → Dev nD → ℕ → sProp 𝕄) :
    (bigSep Finset.univ fun c : Dev nD => bigSep (Finset.range 15) fun j => Ψ (tgt c j) c (14 - j))
      = bigSep Finset.univ fun c : Dev nD => bigSep (Finset.range 15) fun j => Ψ c (tgt c j) j := by
  rw [swap, bigSep_congr (s := Finset.range 15) (Ψ := fun j => bigSep Finset.univ fun c : Dev nD => Ψ c (tgt c (14 - j)) (14 - j)) (fun j hj => ?_),
    ← swap]
  · exact bigSep_congr fun c _ => reflect fun j => Ψ c (tgt c j) j
  · have hj' := Finset.mem_range.mp hj
    rw [bigSep_univ_equiv (shift j hj') (fun c : Dev nD => Ψ c (tgt c (14 - j)) (14 - j))]
    exact bigSep_congr fun c _ => by rw [show shift j hj' c = tgt c j from rfl, tgt_tgt c hj']

theorem reflect_sum {A : Type} [AddCommMonoid A] (f : ℕ → A) : ∑ j ∈ Finset.range 15, f (14 - j) = ∑ j ∈ Finset.range 15, f j :=
  Finset.sum_range_reflect f 15

/-- The same for sums. -/
theorem deal_sum {A : Type} [AddCommMonoid A] (f : Dev nD → Dev nD → A) :
    ∑ c : Dev nD, ∑ j ∈ Finset.range 15, f (tgt c j) c = ∑ c : Dev nD, ∑ j ∈ Finset.range 15, f c (tgt c j) := by
  rw [Finset.sum_comm, Finset.sum_congr rfl (g := fun j => ∑ c : Dev nD, f c (tgt c (14 - j))) (fun j hj => ?_), Finset.sum_comm]
  · exact Finset.sum_congr rfl fun c _ => reflect_sum fun j => f c (tgt c j)
  · have hj' := Finset.mem_range.mp hj
    rw [← Equiv.sum_comp (shift j hj') (fun c : Dev nD => f c (tgt c (14 - j)))]
    exact Finset.sum_congr rfl fun c _ => by rw [show shift j hj' c = tgt c j from rfl, tgt_tgt c hj']

/-! ## The launch's credit -/

/-- What device `c`'s cells are owed. -/
def Tdue (c : Dev nD) : CellTallies nD τ sig Unit :=
  tallyAt (bCell c) () 15 + ∑ j ∈ Finset.range 15, tallyAt (dCell c (15 + (tgt c j).val)) () Nb

theorem tally_sum (g : GSem nD τ sig) (n : ℕ) : ∑ _j ∈ Finset.range n, (tallyAt g () 1 : CellTallies nD τ sig Unit) = tallyAt g () n := by
  induction n with
  | zero => rw [Finset.range_zero, Finset.sum_empty, tallyAt_zero]
  | succ n ih => rw [Finset.sum_range_succ, ih, tallyAt_add]

theorem dues_sum : ∑ d : Dev nD, Osig d 0 = ∑ d : Dev nD, Tdue d := by
  unfold Osig Osend Tdue
  rw [Finset.sum_add_distrib, Finset.sum_add_distrib, add_comm]
  simp only [← Finset.range_eq_Ico]
  rw [deal_sum (fun g p : Dev nD => (tallyAt (bCell g) () 1 : CellTallies nD τ sig Unit)),
    deal_sum (fun g p : Dev nD => (tallyAt (dCell g (15 + p.val)) () Nb : CellTallies nD τ sig Unit))]
  congr 1
  exact Finset.sum_congr rfl fun c _ => tally_sum _ 15

theorem Tdue_own (d : Dev nD) (g : GSem nD τ sig) (h : Tdue d g ≠ 0) : g.1 = (d.tc : Thread nD τ) := by
  by_contra hn
  apply h
  unfold Tdue
  rw [Pi.add_apply, Finset.sum_apply, tallyAt_ne_cell (fun e => hn (congrArg Prod.fst e)), zero_add]
  exact Finset.sum_eq_zero fun j _ => tallyAt_ne_cell (fun e => hn (congrArg Prod.fst e)) _ _

/-- Each device's credit: fifteen units of its barrier, and every slab it receives. -/
theorem creds : (Pipeline.launchCred (fun d : Dev nD => Osig d 0) c : sProp 𝕄)
    = iprop(cred (tallyAt (bCell c) () 15) ∗ bigSep ((Finset.range 16).erase c.val) fun s => cred (tallyAt (dCell c (15 + s)) () Nb)) := by
  have himg : (Finset.range 16).erase c.val = (Finset.range 15).image fun j => (tgt c j).val := by
    have hc := dev_lt c
    ext s
    simp only [Finset.mem_erase, Finset.mem_range, Finset.mem_image, tgt_val]
    constructor
    · rintro ⟨h1, h2⟩
      refine ⟨(s + 15 - c.val) % 16, ?_, ?_⟩ <;> omega
    · rintro ⟨j, hj, rfl⟩
      constructor <;> omega
  rw [Pipeline.launchCred_of_sum _ Tdue dues_sum Tdue_own c, himg, bigSep_image (fun j => (tgt c j).val) _ _ (fun x hx y hy h => by
    have h1 := Finset.mem_coe.mp hx; have h2 := Finset.mem_coe.mp hy
    rw [Finset.mem_range] at h1 h2
    have hc := dev_lt c; simp only [tgt_val] at h; omega)]
  unfold Tdue
  rw [BI.Entails.antisymm (cred_add _ _).1 (cred_add _ _).2, Pipeline.cred_finsetSum]

end Cert.Exchange

end
-- ==== Proof.Launch.lean ====
/-
# The launch, and the run

Every cell's invariant allocated, every device given the tokens of what it pays; the body's obligation; the run's final
memory.

-/
module

public import proofs.«01_k».proof.Proof.Deal
public import Idealize.ShloMosaic.Lib.Pipeline.CollectiveSegs
public import Idealize.ShloMosaic.Lib.Quiescent

@[expose] public section

noncomputable section

namespace Cert.Exchange

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

variable (m : (ℓ : Loc nD τ sig) → Buf (Elt F) ℓ) (K : Dev nD × SemLoc sig → ℕ) (c : Dev nD)

/-! ## What each device is given -/

/-- The kernel's own semaphores. -/
abbrev osem : Fin 37 → SemLoc sig := fun q => .dma q

set_option maxRecDepth 8000 in
theorem ownSemFacts : Pipeline.OwnSemFacts cfg0.spec osem := by decide

theorem cellAt_injective : Function.Injective (cellAt : Dev nD × SemLoc sig → GSem nD τ sig) := by
  rintro ⟨c, s⟩ ⟨c', s'⟩ h
  have h1 : c = c' := congrArg (fun g : GSem nD τ sig => g.1.1) h
  have h2 : s = s' := congrArg Prod.snd h
  rw [h1, h2]

def cells : Finset (GSem nD τ sig) := Finset.univ.map ⟨cellAt, cellAt_injective⟩

/-- The duty tokens of device `c`'s cells: its barrier's fifteen, and one of every transfer semaphore. -/
abbrev tokOf (x : Dev nD × (Fin 15 ⊕ DmaSem sig)) : GSem nD τ sig × ℕ × ℕ := match x.2 with
  | .inl d => (bCell x.1, 0, d.val)
  | .inr q => (cellAt (x.1, .dma q), 0, 0)

theorem tokOf_injective : Function.Injective tokOf := by
  rintro ⟨c, s⟩ ⟨c', s'⟩ h
  have h1 : c = c' := by
    have := congrArg (fun x : GSem nD τ sig × ℕ × ℕ => x.1.1.1) h
    rcases s with d | q <;> rcases s' with d' | q' <;> exact this
  subst h1
  have h2 : s = s' := by
    rcases s with d | q <;> rcases s' with d' | q'
    · exact congrArg Sum.inl (Fin.ext (congrArg (fun x : GSem nD τ sig × ℕ × ℕ => x.2.2) h))
    · exact absurd (congrArg (fun x : GSem nD τ sig × ℕ × ℕ => x.1.2) h) (fun e => by cases e)
    · exact absurd (congrArg (fun x : GSem nD τ sig × ℕ × ℕ => x.1.2) h) (fun e => by cases e)
    · exact congrArg Sum.inr (SemLoc.dma.inj (congrArg (fun x : GSem nD τ sig × ℕ × ℕ => x.1.2) h))
  rw [h2]

def allToks : Finset (GSem nD τ sig × ℕ × ℕ) := Finset.univ.map ⟨tokOf, tokOf_injective⟩

def u₀ : UU := (initOf (Pipeline.cells cfgs cellOf_inj) (Pipeline.launchToks cfgs cellOf_inj), initOf cells allToks)

def toks : sProp 𝕄 :=
  iprop((bigSep (Finset.range 15) fun d => dutyTok ER (bCell c) 0 d) ∗ bigSep (Finset.range 37) fun q => dutyTok ER (dCell c q) 0 0)

def G : sProp 𝕄 :=
  iprop((bigSep Finset.univ fun s : SemLoc sig => roundState ER (Rd m) (cellAt (c, s)) 0)
    ∗ ((bigSep Finset.univ fun s : SemLoc sig => atPos ER (cellAt (c, s)) 0 ∅ 0) ∗ (bigSep Finset.univ fun s : SemLoc sig => reached ER (cellAt (c, s)) 0))
    ∗ toks (F := F) c)

/-- The tokens of the duties device `c` pays. -/
def payToks : sProp 𝕄 :=
  iprop((bigSep (Finset.range 15) fun j => dutyTok ER (bCell (tgt c j)) 0 (14 - j)) ∗ SendToks (F := F) c
    ∗ (bigSep (Finset.range 4) fun g => dutyTok ER (dCell c (31 + g)) 0 0) ∗ dutyTok ER (dCell c 35) 0 0 ∗ dutyTok ER (dCell c 36) 0 0)

def mine : sProp 𝕄 := iprop((bigSep Finset.univ fun s : SemLoc sig => atPos ER (cellAt (c, s)) 0 ∅ 0) ∗ payToks (F := F) c)

/-- The records but for the levels. -/
def recs : sProp 𝕄 :=
  iprop((bigSep Finset.univ fun ck : Dev nD × SemLoc sig => cellInv ER (Rd m) (K ck) (cellAt ck))
    ∗ (bigSep Finset.univ fun ck : Dev nD × SemLoc sig => reached ER (cellAt ck) 0))

instance recs_persistent : BI.Persistent (recs m K) := by unfold recs; infer_instance

def G' : sProp 𝕄 := iprop(∃ K, recs m K ∗ mine (F := F) c)

theorem fund : BI.own (ER (initOf cells allToks)) ⊢ (|==> bigSep Finset.univ (G m) : sProp 𝕄) := by
  have hX (Φ : GSem nD τ sig → sProp 𝕄) : bigSep cells Φ = bigSep Finset.univ fun c : Dev nD => bigSep Finset.univ fun s : SemLoc sig => Φ (cellAt (c, s)) := by
    unfold cells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    refine bigSep_congr fun c _ => ?_
    unfold toks
    rw [bigSep_univ_sum, ← bigSep_fin37 (fun q => (dutyTok ER (cellAt (c, .dma q)) 0 0 : sProp 𝕄)),
      ← Ring.bigSep_fin_eq_range 15 (fun d => (dutyTok ER (bCell c) 0 d.val : sProp 𝕄)) _ (fun _ _ => rfl)]
    rfl
  iintro HX
  imod (Rounds.fund ER (Rd m) cells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq : (Pipeline.ownSems0 (Ix := Unit) (Name := ℕ) (U := UU) (Lvl := ℕ) (Val := Elt F) (τ := τ) osem c : sProp 𝕄)
    = bigSep (Finset.range 37) fun q => semVal (dCell c q) 0 := by
  unfold Pipeline.ownSems0
  exact bigSep_fin37 fun q => semVal ((c : Thread nD τ), SemLoc.dma q) 0

set_option maxRecDepth 8000 in
theorem unscopedSems0_eq : (unscopedSems0 c : sProp 𝕄) = semVal (bCell c) 0 := by
  unfold unscopedSems0; rw [bigSep_eq_bigSepL_of_eq [SemLoc.reg barS] (by decide) (by decide)]; rfl

theorem sems0_eq :
    iprop(Pipeline.ownSems0 (Ix := Unit) (Name := ℕ) (U := UU) (Lvl := ℕ) (Val := Elt F) (τ := τ) osem c ∗ unscopedSems0 c)
      ⊢ (bigSep Finset.univ fun s : SemLoc sig => semVal (cellAt (c, s)) 0 : sProp 𝕄) := by
  rw [ownSems0_eq, unscopedSems0_eq, all_sems]
  iintro ⟨HS, HB⟩
  isplitl [HB] <;> iassumption

/-- One device's cells' invariants allocated. -/
theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun s : SemLoc sig => iprop(∃ κ : ℕ, cellInv ER (Rd m) κ (cellAt (c, s))))
          ∗ ((bigSep Finset.univ fun s : SemLoc sig => atPos ER (cellAt (c, s)) 0 ∅ 0) ∗ (bigSep Finset.univ fun s : SemLoc sig => reached ER (cellAt (c, s)) 0))
          ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun s : SemLoc sig => semVal (cellAt (c, s)) 0) ∗ bigSep Finset.univ fun s : SemLoc sig => roundState ER (Rd m) (cellAt (c, s)) 0)
      ⊢ (|={Set.univ}=> bigSep Finset.univ fun s => iprop(∃ κ : ℕ, cellInv ER (Rd m) κ (cellAt (c, s))) : sProp 𝕄) from by
        rw [← bigSep_sep']
        exact (bigSep_mono fun s _ => (Rounds.body_intro ER (Rd m) (cellAt (c, s))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt to the devices that pay. -/
theorem toks_around : (bigSep Finset.univ fun c : Dev nD => (toks c : sProp 𝕄)) ⊢ bigSep Finset.univ fun c : Dev nD => payToks c := by
  have h1 := deal (F := F) (fun g _ d => dutyTok ER (bCell g) 0 d)
  have h2 := deal (F := F) (fun g p _ => dutyTok ER (dCell g (15 + p.val)) 0 0)
  have h3 : (bigSep Finset.univ fun c : Dev nD => bigSep (Finset.range 16) fun s => (dutyTok ER (dCell c (15 + s)) 0 0 : sProp 𝕄))
      = bigSep Finset.univ fun c : Dev nD => iprop(dutyTok ER (dCell c (15 + c.val)) 0 0
          ∗ bigSep (Finset.range 15) fun j => dutyTok ER (dCell c (15 + (tgt c j).val)) 0 0) :=
    bigSep_congr fun c _ => around c fun s => dutyTok ER (dCell c (15 + s)) 0 0
  unfold toks payToks SendToks
  simp only [split37, bigSep_sep'] at h3 ⊢
  rw [h1, h2, h3]
  iintro ⟨H1, H2, ⟨-, H3⟩, H4, H5, H6⟩
  isplitl [H1]; · iexact H1
  isplitl [H2 H3]
  · isplitl [H2] <;> iassumption
  isplitl [H4]; · iexact H4
  isplitl [H5] <;> iassumption

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun s : SemLoc sig => iprop(∃ κ : ℕ, cellInv ER (Rd m) κ (cellAt (c, s))))
          ∗ ((bigSep Finset.univ fun s : SemLoc sig => atPos ER (cellAt (c, s)) 0 ∅ 0) ∗ (bigSep Finset.univ fun s : SemLoc sig => reached ER (cellAt (c, s)) 0))
          ∗ toks (F := F) c) : sProp 𝕄)
      ⊢ bigSep Finset.univ (G' m) := by
  rw [bigSep_sep', bigSep_sep', bigSep_sep', ← bigSep_univ_prod (fun ck : Dev nD × SemLoc sig => iprop(∃ κ : ℕ, cellInv ER (Rd m) κ (cellAt ck))),
    ← bigSep_univ_prod (fun ck : Dev nD × SemLoc sig => (reached ER (cellAt ck) 0 : sProp 𝕄))]
  iintro ⟨HI, ⟨Hat, #HR⟩, Htok⟩
  ihave HK := (BI.bigSep_exists_pi Finset.univ (fun (ck : Dev nD × SemLoc sig) (κ : ℕ) => (cellInv ER (Rd m) κ (cellAt ck) : sProp 𝕄))) $$ HI
  icases HK with ⟨%K, #HI⟩
  ihave Htk := (toks_around (F := F)) $$ Htok
  have hG (c : Dev nD) : iprop(recs m K ∗ mine (F := F) c) ⊢ G' m c := by
    unfold G'; iintro H; iexists K; iexact H
  iapply (with_persistent (R := recs m K) fun c _ => hG c)
  isplitr
  · unfold recs; isplitl; · iexact HI
    iexact HR
  · unfold mine; rw [bigSep_sep']
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The proof data -/

/-- The operands and the result. -/
def arrays (f : Vec F S64x1024 .f32) : sProp 𝕄 :=
  iprop(((c : Thread nD τ).loc main_arg0 ↦{fullShare} xF m c) ∗ ((c : Thread nD τ).loc main_arg1 ↦{fullShare} wF m c)
    ∗ ((c : Thread nD τ).loc main_v1 ↦{fullShare} f))

def start : sProp 𝕄 :=
  iprop((∃ K, records m K ∗ mine (F := F) c) ∗ (cred (tallyAt (bCell c) () 15)
      ∗ bigSep ((Finset.range 16).erase c.val) fun s => cred (tallyAt (dCell c (15 + s)) () Nb))
    ∗ ∃ f, arrays m c f)

def Φ₀ : sProp 𝕄 := iprop(start m c ∗ Pipeline.scopedRest cfg0.spec c)
def Φ₁ : sProp 𝕄 :=
  iprop((arrays m c (outF m c) ∗ unscopedSems0 c)
    ∗ Pipeline.ownSems0 (Ix := Unit) (Name := ℕ) (U := UU) (Lvl := ℕ) (Val := Elt F) (τ := τ) osem c ∗ Pipeline.scopedRest cfg0.spec c)

def dats (_ : Fin 1) (c : Dev nD) : Pipeline.Dat τ (Elt F) Unit ℕ UU ℕ cfg0 c where
  A w := w.elim0
  after w _ := w.elim0
  Φ t := match t with
    | ⟨0, _⟩ => Φ₀ m c
    | ⟨_ + 1, _⟩ => Φ₁ m c
  q _ := fullShare
  owed t := match t with
    | ⟨0, _⟩ => Osig c 0
    | ⟨_ + 1, _⟩ => 0

theorem some_parts {T : Type} (n : ℕ) (A : ℕ → T → sProp 𝕄) (f : T) :
    (bigSep (Finset.range n) fun j => A j f) ⊢ bigSep (Finset.range n) fun j => iprop(∃ f, A j f) := by
  have h (j : ℕ) : A j f ⊢ iprop(∃ f, A j f) := by iintro H; iexists f; iexact H
  exact bigSep_mono fun j _ => h j

/-- What the launch gives a device is what its body starts with. -/
theorem enter : iprop(Φ₀ m c ∗ owesE c (Osig c 0)) ⊢ iprop(∃ K, records m K ∗ BodyIn m c) := by
  unfold Φ₀ start mine payToks arrays BodyIn SigSt WSt WPre WaitToks oPts
  rw [scopedRest0_eq, all_sems, split37]
  simp only [bigSep_sep', com_parts, wa_parts, ← Finset.range_eq_Ico]
  iintro ⟨⟨⟨⟨%K, #HR, ⟨HaB, HaS, HaR, HaW, Ha35, Ha36⟩, HtB, HtS, HtW, Ht35, Ht36⟩, ⟨HcB, HcR⟩, ⟨%f, Hx, Hw, Hv⟩⟩, ⟨Hs0, ⟨%fw, Hs1⟩, Hs2, ⟨%fc, Hs3⟩⟩⟩, HO⟩
  iexists K
  ihave Hc := (Entails.of_eq (around c fun s => slotPts c s fc)) $$ Hs3
  icases Hc with ⟨Hown, Hsl⟩
  ihave Hs1 := (Entails.of_eq (w_parts c fw)) $$ Hs1
  isplitr; · iexact HR
  isplitl [HO HtB Hsl]
  · isplitl [HO]; · iexact HO
    isplitl [HtB]; · iexact HtB
    iapply (some_parts 15 (fun j f => slotPts c (tgt c j).val f) fc); iexact Hsl
  isplitl [HtW Hs1 Hw]
  · isplitl
    · isplitl [HtW]; · iexact HtW
      isplitl [Hs1]
      · iapply (some_parts 4 (fun g f => wPts c g f) fw); iexact Hs1
      iexact Hw
    rw [Finset.range_zero, bigSep_empty]; iempintro
  isplitl [Ht35]; · iexact Ht35
  isplitl [Hx]; · iexact Hx
  isplitl [Hs0]; · iexact Hs0
  isplitl [Ha35]; · iexact Ha35
  isplitl [Hown]; · iexists fc; iexact Hown
  isplitl [HcB]; · iexact HcB
  isplitl [HaB]; · iexact HaB
  isplitl [HtS]; · iexact HtS
  isplitl [HaR HcR HaW HaS]
  · isplitl [HaR]; · iexact HaR
    isplitl [HcR]; · iexact HcR
    isplitl [HaW] <;> iassumption
  isplitl [Hs2]; · iexact Hs2
  isplitl [Ht36]; · iexact Ht36
  isplitl [Hv]; · iexists f; iexact Hv
  iexact Ha36

/-- What the body ends with is what the launch takes back. -/
theorem leave : BodyOut m c ⊢ iprop(Φ₁ m c ∗ owesE c 0) := by
  unfold Φ₁ arrays BodyOut RDone CDone SDone oPay
  rw [scopedRest0_eq, ownSems0_eq, unscopedSems0_eq, split37]
  simp only [bigSep_sep']
  iintro ⟨HO, ⟨Hsl, HzR⟩, ⟨Hw, Hwa, HzW⟩, ⟨Hxs, HzS⟩, Ha, Hxo, Hz35, HzB, ⟨Hv, Ho⟩, Hz36⟩
  ihave Hx := (Entails.of_eq ((x_parts c (xF m c)).trans (around c fun s => xPts c s (xF m c))).symm) $$ [Hxo Hxs]
  · isplitl [Hxo] <;> iassumption
  ihave Hc := (Entails.of_eq (com_parts c (comF m c)).symm) $$ Hsl
  ihave Hw := (Entails.of_eq (w_parts c (wF m c)).symm) $$ Hw
  ihave Hwa := (Entails.of_eq (wa_parts c (wF m c)).symm) $$ Hwa
  isplitr [HO]
  · isplitl [Ha Hwa Hv HzB]
    · isplitl [Ha Hwa Hv]
      · isplitl [Ha]; · iexact Ha
        isplitl [Hwa] <;> iassumption
      iexact HzB
    isplitl [HzR HzW HzS Hz35 Hz36]
    · isplitl [HzS]; · iexact HzS
      isplitl [HzR]; · iexact HzR
      isplitl [HzW]; · iexact HzW
      isplitl [Hz35] <;> iassumption
    isplitl [Hx]; · iexists _; iexact Hx
    isplitl [Hw]; · iexists _; iexact Hw
    isplitl [Ho]; · iexists _; iexact Ho
    iexists _; iexact Hc
  iexact HO

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem bigSep_none (Φ : Fin cfg0.W → sProp 𝕄) : bigSep Finset.univ Φ = iprop(emp) := by
  rw [show (Finset.univ : Finset (Fin cfg0.W)) = ∅ from rfl, bigSep_empty]; rfl

/-- What the body ends with, as the launch asks for it. -/
def bodyPost : sProp 𝕄 := iprop(Φ₁ m c ∗ (dats m 0 c).owesAt () t₀.succ ∗ emp)

theorem body_wp :
    iprop(Φ₀ m c ∗ (dats m 0 c).owesAt () t₀.castSucc ∗ emp) ⊢ wpc c (atBufs (cc0_body (F := F))) (fun _ => bodyPost m c) := by
  unfold bodyPost Pipeline.Dat.owesAt Pipeline.owesWithin
  rw [show (dats m 0 c).owed t₀.castSucc = Osig c 0 from rfl, show (dats m 0 c).owed t₀.succ = 0 from rfl]
  iintro ⟨HP, ⟨%W, %hW, HO⟩, -⟩
  ihave H := (enter m c) $$ [HP HO]
  · isplitl [HP]; · iexact HP
    unfold owesE; iexists W; iexact HO
  icases H with ⟨%K, #HR, HB⟩
  iapply (body_spec m K c)
  isplitr; · iexact HR
  isplitl [HB]; · iexact HB
  iintro HB
  ihave H := (leave m c) $$ HB
  unfold owesE
  icases H with ⟨HP, ⟨%W', HO⟩⟩
  isplitl [HP]; · iexact HP
  isplitl [HO]
  · iexists W'
    isplitr; · ipureintro; exact fun _ _ => Or.inl trivial
    iexact HO
  iempintro

set_option maxRecDepth 8000 in
theorem body_obligation : Pipeline.BodyObligation (dats (F := F) m 0 c) (defs₀ (F := F)) 𝒱₀ () Set.univ := fun t => by
  rw [fin_N t, bigSep_none, bigSep_none]
  exact body_wp m c

theorem share_eq (w : Fin cfg0.W) : (dats m 0 c).share w = fullShare := w.elim0

theorem start_intro (g : PrngReg) :
    iprop(Pipeline.unscopedRestP Pipeline.Prefetch.none cfg0.spec c (fun b => m ((c : Thread nD τ).loc b)) ∗ levAts L lv
        ∗ Pipeline.launchCred (fun d : Dev nD => Osig d 0) c ∗ prngReg c g ∗ G' m c)
      ⊢ |={Set.univ}=> iprop(start m c ∗ emp) := by
  rw [creds, Pipeline.unscopedRestP_none, unscopedRest0_eq]
  unfold start G' recs records
  iintro ⟨⟨Hx, Hw, Hv⟩, Hlev, Hcr, -, ⟨%K, ⟨HI, HR⟩, HM⟩⟩
  imodintro
  isplitl
  · isplitl [HI HR Hlev HM]
    · iexists K
      isplitr [HM]
      · isplitl [HI]; · iexact HI
        isplitl [HR] <;> iassumption
      iexact HM
    isplitl [Hcr]; · iexact Hcr
    iexists (m ((c : Thread nD τ).loc main_v1))
    unfold arrays xF wF
    isplitl [Hx]; · iexact Hx
    isplitl [Hw] <;> iassumption
  · iempintro

theorem waits : (levAts L lv : sProp 𝕄) ⊢ Pipeline.cellsWaits cfgs (dats m) () 0 c :=
  Pipeline.cellsWaits_intro cfgs (dats m) () 0 c fun w s t => w.elim0

/-- The final memory of one device: the operands as they were, the result the computed one. -/
def QM (c : Dev nD) (s : MemSt nD τ sig (Elt F)) : Prop :=
  s.mem ((c : Thread nD τ).loc main_arg0) = xF m c ∧ s.mem ((c : Thread nD τ).loc main_arg1) = wF m c
    ∧ s.mem ((c : Thread nD τ).loc main_v1) = outF m c

theorem arrays_read (f : Vec F S64x1024 .f32) (s' : Phys nD τ sig (Elt F)) :
    iprop(arrays m c f ∗ SI s') ⊢ iprop(⌜s'.mem.mem ((c : Thread nD τ).loc main_arg0) = xF m c
      ∧ s'.mem.mem ((c : Thread nD τ).loc main_arg1) = wF m c ∧ s'.mem.mem ((c : Thread nD τ).loc main_v1) = f⌝ ∗ SI s') := by
  unfold arrays
  iintro ⟨⟨Hx, Hw, Hv⟩, HSI⟩
  ihave H := (pointsTo_read_all {()} (fun _ : Unit => (c : Thread nD τ).loc main_arg0) (fun _ => xF m c) s') $$ [Hx HSI]
  · rw [bigSep_singleton]; isplitl [Hx] <;> iassumption
  icases H with ⟨%h1, HSI⟩
  ihave H := (pointsTo_read_all {()} (fun _ : Unit => (c : Thread nD τ).loc main_arg1) (fun _ => wF m c) s') $$ [Hw HSI]
  · rw [bigSep_singleton]; isplitl [Hw] <;> iassumption
  icases H with ⟨%h2, HSI⟩
  ihave H := (pointsTo_read_all {()} (fun _ : Unit => (c : Thread nD τ).loc main_v1) (fun _ => f) s') $$ [Hv HSI]
  · rw [bigSep_singleton]; isplitl [Hv] <;> iassumption
  icases H with ⟨%h3, HSI⟩
  isplitr
  · ipureintro; exact ⟨h1 () (Finset.mem_singleton_self _), h2 () (Finset.mem_singleton_self _), h3 () (Finset.mem_singleton_self _)⟩
  iexact HSI

set_option maxRecDepth 8000 in
/-- From any memory with zero counters, for any float values: every fair execution ends, with the operands unchanged, the
    result the computed one and every semaphore at zero. -/
theorem run_main (g : Dev nD → PrngReg) :
    θ_run defs (onTc (τ := τ) (main (F := F))) ⟨m, fun _ => 0, g⟩ (fun r => (∀ c : Dev nD, QM m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m g main
    (hmain := fun _ => rfl)
    (hbody := fun c => body_obligation m c) (hne := fun w => w.elim0) (harr := arr_whole0) (hstage := stage_whole0) (hshare := share_eq m)
    (hdistinct := winFacts0.arr_inj)
    (O₀ := fun d => Osig d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund m) $$ HX with HG
      imodintro
      isplitl [HP] <;> iassumption)
    (hglob := glob m)
    (hA := fun _ w => w.elim0) (hpf := fun _ k => k.elim0)
    (X := start m) (Y := fun c => iprop(arrays m c (outF m c) ∗ unscopedSems0 c)) (Z := fun _ => iprop(emp))
    (hX := fun c => start_intro m c (g c))
    (hin := fun c => by
      rw [show (dats m 0 c).Φ 0 = Φ₀ m c from rfl]; unfold Φ₀
      iintro ⟨Hs, -, Hr⟩
      isplitl [Hs] <;> iassumption)
    (hout := fun c => Entails.of_eq rfl)
    (QY := fun c s => QM m c s ∧ ∀ sm : SemLoc sig, sm.isScoped .tc = false → s.sem ((c.tc : Thread nD τ), sm) = 0)
    (hY := fun c s' => by
      iintro ⟨⟨Ha, Hu⟩, -, HSI⟩
      ihave H := (arrays_read m c (outF m c) s') $$ [Ha HSI]
      · isplitl [Ha] <;> iassumption
      icases H with ⟨%h, HSI⟩
      imod (Pipeline.unscopedSems0_read (X := unscopedSems0 c) (c := c) fupd_intro s') $$ [Hu HSI] with ⟨%h', HSI⟩
      · isplitl [Hu] <;> iassumption
      imodintro
      isplitr; · ipureintro; exact ⟨h, h'⟩
      iexact HSI)
    (hQ := fun _ h hs => ⟨fun c => (h c).2.2.1, sem_eq_zero hs fun c => (h c).2.2.2⟩)

end Cert.Exchange

end
-- ==== Proof.Value.lean ====
/-
# The kernel's result is the product's rows

At the ideal values, where a float is an extended real and a change of format does nothing, four slabs of the landing
buffer side by side are 256 columns of the whole left operand, each of the four multiplications adds the product over
those 256 columns, and the four together are a sum over all 1024 columns: the entry of the matrix product.
-/
module

public import proofs.«01_k».proof.Proof.Common
public import proofs.«01_k».proof.Proof.Gen.ReferenceIdeal.Run
public import Idealize.ShloMosaic.Lib.Layout
public import Idealize.ShloMosaic.Lib.MatmulPlain
public import Idealize.ShloMosaic.Lib.StackMember
public import Idealize.ShloMosaic.Lib.ValueLayout
public import Idealize.ShloMosaic.Lib.Pipeline.Value
public import Idealize.ShloMosaic.Lib.Pointwise.Sums

@[expose] public section

set_option backward.proofsInPublic true

noncomputable section

namespace Cert.Exchange

open Cert.KernelIdeal Cert.KernelIdeal.Gen
open Idealize.ShloMosaic hiding ix2 eq_ix2
open Idealize.ShloMosaic.TcCoe
open Idealize.ShloMosaic.ValueIdx

/-- A slab of the landing buffer as a matrix. -/
abbrev mat (v : Vec Ideal S1x64x64 .bf16) : FVec Ideal S64x64 .bf16 := shapeCast S64x64 v shapeCasts_S1x64x64_S64x64

/-- Four matrices side by side, in the order of their positions. -/
abbrev cat (f : Fin 4 → FVec Ideal S64x64 .bf16) : FVec Ideal S64x256 .bf16 :=
  concatenate S64x256 1 [⟨S64x64, f 0⟩, ⟨S64x64, f 1⟩, ⟨S64x64, f 2⟩, ⟨S64x64, f 3⟩] concatenates_S64x64_S64x64_S64x64_S64x64_S64x256_d1

/-- Column `k` of four matrices side by side is column `k % 64` of the matrix at position `k / 64`. -/
theorem cat_apply (f : Fin 4 → FVec Ideal S64x64 .bf16) (i : Fin 64) (k : Fin 256) :
    cat f (ix2 i k) = f ⟨k.val / 64, by omega⟩ (ix2 i ⟨k.val % 64, by omega⟩) := by
  refine concatenate_ofFn_apply (t := S64x256) (s₁ := S64x64) 1 f
    concatenates_S64x64_S64x64_S64x64_S64x64_S64x256_d1 rfl 64 rfl (ix2 i k) ⟨k.val / 64, by omega⟩ rfl
    (ix2 i ⟨k.val % 64, by omega⟩) rfl fun b hb => ?_
  match b with
  | ⟨0, _⟩ => rfl
  | ⟨1, _⟩ => exact absurd rfl hb

/-- The product of 256 columns by 256 rows, on top of nothing: the sum of the 256 products. -/
theorem step_apply (A : FVec Ideal S64x256 .bf16) (B : FVec Ideal S256x1024 .bf16) (i : Fin 64) (j : Fin 1024) :
    matmul dot_S64x256_S256x1024_S64x1024_1_0_0_1_n_n none A B (constant S64x1024 .f32 0x00000000#32) (ix2 i j)
      = ∑ k : Fin 256, A (ix2 i k) * B (ix2 k j) := by
  have h := Ideal.matmul_plain_apply (M := 64) (K := 256) (N := 1024) none A B (constant S64x1024 .f32 0x00000000#32) i j
  refine Eq.trans ?_ (h.trans ?_)
  · rfl
  · rw [constant_apply, Ideal.ofBits_zero_f32, zero_add]

variable (m : (ℓ : Loc nD τ sig) → Buf (Elt Ideal) ℓ) (c : Dev nD)

/-- The four slabs of group `g`, as matrices. -/
abbrev slabs (g : ℕ) : Fin 4 → FVec Ideal S64x64 .bf16 := fun p => mat (slotVal m c (4 * g + p.val))

/-- What group `g` contributes to the result. -/
def part (g : ℕ) : FVec Ideal S64x1024 .f32 :=
  matmul (φ₁ := .bf16) (φ₂ := .bf16) dot_S64x256_S256x1024_S64x1024_1_0_0_1_n_n none (cat (slabs m c g)) (wVal m c g) (constant S64x1024 .f32 0x00000000#32)

/-- The result is the four contributions added in order. -/
theorem outF_eq : outF m c = addf (addf (addf (part m c 0) (part m c 1)) (part m c 2)) (part m c 3) := by
  unfold outF acc2 acc1 acc0
  unfold k0_pay10 k0_pay9 k0_pay8 k0_pay7 k0_pay6 k0_pay5 k0_pay4 k0_pay3 k0_pay2
  simp only [shapeCast_self]
  rfl

section Whole

variable (X W : Vec Ideal ⟨2, ![1024, 1024]⟩ .bf16)
  (hx : ∀ c : Dev nD, xF m c = Layout.block ⟨2, ![1024, 64]⟩ ⟨2, ![1024, 1024]⟩ 1 16 c X) (hw : ∀ c : Dev nD, wF m c = W)

include hx in
/-- Column `k` of group `g`'s four slabs is column `256 g + k` of the whole left operand, at the device's own rows. -/
theorem slabs_apply {g : ℕ} (hg : g < 4) (i : Fin 64) (k : Fin 256) :
    cat (slabs m c g) (ix2 i k)
      = X (ix2 (⟨64 * c.val + i.val, row_lt c i⟩ : Fin 1024) (⟨g * 256 + k.val, by omega⟩ : Fin 1024)) := by
  rw [cat_apply]
  refine (shapeCast_1ab_ab_apply _ _ i _).trans ?_
  show xF m _ _ = _
  rw [hx]
  refine congrArg X (funext fun a => Fin.ext ?_)
  match a with
  | ⟨0, _⟩ => rfl
  | ⟨1, _⟩ =>
    show ((4 * g + k.val / 64) % 16) * 64 + k.val % 64 = g * 256 + k.val
    omega

include hw in
/-- Row `k` of chunk `g` is row `256 g + k` of the right operand. -/
theorem chunk_apply {g : ℕ} (hg : g < 4) (k : Fin 256) (j : Fin 1024) :
    wVal m c g (ix2 k j) = W (ix2 (⟨g * 256 + k.val, by omega⟩ : Fin 1024) j) := by
  show wF m c _ = _
  rw [hw]
  refine congrArg W (funext fun a => Fin.ext ?_)
  match a with
  | ⟨0, _⟩ =>
    show (256 * g + k.val) % 1024 = g * 256 + k.val
    omega
  | ⟨1, _⟩ => rfl

include hx hw in
/-- Group `g` contributes the part of the product's sum that runs over columns `256 g` to `256 g + 255`. -/
theorem part_apply {g : ℕ} (hg : g < 4) (i : Fin 64) (j : Fin 1024) :
    part m c g (ix2 i j) = ∑ k : Fin 256,
      X (ix2 (⟨64 * c.val + i.val, row_lt c i⟩ : Fin 1024) (⟨g * 256 + k.val, by omega⟩ : Fin 1024))
        * W (ix2 (⟨g * 256 + k.val, by omega⟩ : Fin 1024) j) := by
  refine (step_apply _ _ i j).trans (Finset.sum_congr rfl fun k _ => ?_)
  rw [slabs_apply m c X hx hg, chunk_apply m c W hw hg]

include hx hw in
/-- An entry of device `c`'s result is the entry of the matrix product at the device's own rows. -/
theorem outF_apply (i : Fin 64) (j : Fin 1024) :
    outF m c (ix2 i j) = ∑ k : Fin 1024, X (ix2 (⟨64 * c.val + i.val, row_lt c i⟩ : Fin 1024) k) * W (ix2 k j) := by
  rw [outF_eq, addf_apply, addf_apply, addf_apply, part_apply m c X W hx hw (by decide), part_apply m c X W hx hw (by decide),
    part_apply m c X W hx hw (by decide), part_apply m c X W hx hw (by decide), Fin.sum_univ_tiles 4 256 rfl, Fin.sum_univ_four]
  rfl

end Whole

/-- The reference's result: the matrix product, narrowed and widened again. -/
def refOut (X W : Vec Ideal ⟨2, ![1024, 1024]⟩ .bf16) : FVec Ideal ⟨2, ![1024, 1024]⟩ .f32 :=
  extf .f32 (truncf .bf16 (Host.dotGeneral (φ₁ := .bf16) (φ₂ := .bf16) Cert.ReferenceIdeal.dot_S1024x1024_S1024x1024_S1024x1024_1_0_0_1_n_n none X W)
    Cert.ReferenceIdeal.Facts₀.bitsLt_bf16_f32) Cert.ReferenceIdeal.Facts₀.bitsLt_bf16_f32

/-- Its entry is the sum over the 1024 columns. -/
theorem refOut_apply (X W : Vec Ideal ⟨2, ![1024, 1024]⟩ .bf16) (a b : Fin 1024) :
    refOut X W (ix2 a b) = ∑ k : Fin 1024, X (ix2 a k) * W (ix2 k b) := by
  unfold refOut
  rw [extf_apply, truncf_apply]
  exact StackMember.dotGeneral_plain_apply (m := 1024) (k := 1024) (n := 1024) none X W a b

/-- Device `c`'s result is its block of rows of the reference's result. -/
theorem outF_block (X W : Vec Ideal ⟨2, ![1024, 1024]⟩ .bf16)
    (hx : ∀ c : Dev nD, xF m c = Layout.block ⟨2, ![1024, 64]⟩ ⟨2, ![1024, 1024]⟩ 1 16 c X) (hw : ∀ c : Dev nD, wF m c = W) :
    outF m c = Layout.block ⟨2, ![64, 1024]⟩ ⟨2, ![1024, 1024]⟩ 0 16 c (refOut X W) := by
  funext y
  obtain ⟨i, j, rfl⟩ : ∃ (i : Fin 64) (j : Fin 1024), y = ix2 i j := ⟨y 0, y 1, eq_ix2 y⟩
  rw [outF_apply m c X W hx hw, Layout.block_apply, ← refOut_apply]
  refine congrArg (refOut X W) (funext fun a => Fin.ext ?_)
  match a with
  | ⟨0, _⟩ =>
    show 64 * c.val + i.val = c.val * 64 + i.val
    omega
  | ⟨1, _⟩ => rfl

end Cert.Exchange

end
-- ==== Proof.lean ====
/-
# The proof of the claims

The kernel's run (Launch.lean) is written once, for any float values: at the words it is the first claim, at the ideal
values the second, and with the value of its result (Value.lean) the last. The reference's run is read off its three
operations.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The kernel runs at the words, leaves its operands as they were and every semaphore at zero. -/
theorem frame_kernel : Cert.quiescent_Kernel := fun m ρ _ =>
  (θ_run Cert.KernelIdeal.defs _ _).mono (fun _ h => ⟨fun c => ⟨(h.1 c).1, (h.1 c).2.1⟩, h.2⟩)
    (Cert.Exchange.run_main (F := Bits) m ρ)

/-- The kernel runs at the ideal values, leaves its operands as they were and every semaphore at zero. -/
theorem frame_kernelIdeal : Cert.quiescent_KernelIdeal := fun m ρ _ =>
  (θ_run Cert.KernelIdeal.defs _ _).mono (fun _ h => ⟨fun c => ⟨(h.1 c).1, (h.1 c).2.1⟩, h.2⟩)
    (Cert.Exchange.run_main (F := Ideal) m ρ)

/-- The reference runs and leaves its operands as they were; it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- At the ideal values each device's result is its block of rows of the reference's result. -/
theorem value : Cert.algebraic_KernelIdeal_ReferenceIdeal := fun m ρ m' ρ' _ hin => by
  refine ⟨Cert.Exchange.refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  rotate_left
  · exact (θ_run Cert.ReferenceIdeal.defs _ _).mono (fun _ h => h 0) (Cert.ReferenceIdeal.Value.run (F := Ideal) m' ρ')
  · refine (θ_run Cert.KernelIdeal.defs _ _).mono (fun _ h c => ?_) (Cert.Exchange.run_main (F := Ideal) m ρ)
    exact ⟨(h.1 c).2.2.trans (Cert.Exchange.outF_block m c _ _ (fun c => (hin c).1) fun c => (hin c).2), (h.1 c).1, (h.1 c).2.1⟩

/-- All five claims. -/
theorem claim : Cert.Claim := ⟨Cert.Kernel.Gen.facts, Cert.KernelIdeal.Gen.facts, Cert.ReferenceIdeal.Gen.facts,
  frame_kernel, frame_kernelIdeal, frame_referenceIdeal, trivial, value⟩

end Cert.Proof

end
